-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "bin_scale" .f32 0x40BE76C9#32 ((744 / 125 : ℝ) : EReal)
  ∧ IdealRules.named_const.Statement Cert.KernelIdeal.κ "bin_offset" .f32 0x3BC49BA6#32 ((3 / 500 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S262144x64 : Shape := ⟨2, ![262144, 64]⟩
abbrev S32x128 : Shape := ⟨2, ![32, 128]⟩
abbrev S128 : Shape := ⟨1, ![128]⟩
abbrev S128x128 : Shape := ⟨2, ![128, 128]⟩
abbrev S128x800 : Shape := ⟨2, ![128, 800]⟩
abbrev S800 : Shape := ⟨1, ![800]⟩
abbrev S_ : Shape := ⟨0, ![]⟩

class Facts : Prop where
  bcast_S_S262144x64 : S_.BroadcastsInDim S262144x64 (![] : Fin 0 → Fin S262144x64.rank)
  bcast_S_S32x128 : S_.BroadcastsInDim S32x128 (![] : Fin 0 → Fin S32x128.rank)
  bcast_S_S128 : S_.BroadcastsInDim S128 (![] : Fin 0 → Fin S128.rank)
  bcast_S_S128x128 : S_.BroadcastsInDim S128x128 (![] : Fin 0 → Fin S128x128.rank)
  bcast_S_S128x800 : S_.BroadcastsInDim S128x800 (![] : Fin 0 → Fin S128x800.rank)
  bcast_S_S800 : S_.BroadcastsInDim S800 (![] : Fin 0 → Fin S800.rank)

variable [Facts]

def fn_part1 {F : FTy → Type} [FloatOps F] (main_arg6 : FVec F S128 .f32) (main_arg7 : FVec F S128 .f32) (main_arg8 : FVec F S128 .f32) (main_arg9 : FVec F S128x800 .f32) (main_arg10 : FVec F S800 .f32) (main_v2 : IVec S262144x64 1) (main_v5 : IVec S32x128 1) (main_v8 : IVec S128 1) (main_v11 : IVec S128 1) (main_v14 : IVec S128 1) (main_v17 : IVec S128x128 1) : IVec S262144x64 1 × IVec S32x128 1 × IVec S128 1 × IVec S128 1 × IVec S128 1 × IVec S128x128 1 × IVec S128 1 × IVec S128 1 × IVec S128 1 × IVec S128x800 1 × IVec S800 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128 .f32 := Host.absf main_arg7
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128x800 .f32 := Host.absf main_arg9
  let main_cst_8 : FVec F S_ .f32 := constant S_ .f32 0x7F800000#32
  let main_v28 : FVec F S128x800 .f32 := broadcastInDim S128x800 ![] bcast_S_S128x800 main_cst_8
  let main_v29 : IVec S128x800 1 := cmpf .olt main_v27 main_v28
  let main_v30 : FVec F S800 .f32 := Host.absf main_arg10
  let main_cst_9 : FVec F S_ .f32 := constant S_ .f32 0x7F800000#32
  let main_v31 : FVec F S800 .f32 := broadcastInDim S800 ![] bcast_S_S800 main_cst_9
  let main_v32 : IVec S800 1 := cmpf .olt main_v30 main_v31
  (main_v2, main_v5, main_v8, main_v11, main_v14, main_v17, main_v20, main_v23, main_v26, main_v29, main_v32)

def fn {F : FTy → Type} [FloatOps F] (main_arg0 : FVec F S262144x64 .f32) (main_arg1 : FVec F S32x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x800 .f32) (main_arg10 : FVec F S800 .f32) : IVec S262144x64 1 × IVec S32x128 1 × IVec S128 1 × IVec S128 1 × IVec S128 1 × IVec S128x128 1 × IVec S128 1 × IVec S128 1 × IVec S128 1 × IVec S128x800 1 × IVec S800 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_v3 : FVec F S32x128 .f32 := Host.absf main_arg1
  let main_cst_0 : FVec F S_ .f32 := constant S_ .f32 0x7F800000#32
  let main_v4 : FVec F S32x128 .f32 := broadcastInDim S32x128 ![] bcast_S_S32x128 main_cst_0
  let main_v5 : IVec S32x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg6 main_arg7 main_arg8 main_arg9 main_arg10 main_v2 main_v5 main_v8 main_v11 main_v14 main_v17
-- ==== Kernel.lean ====
abbrev S262144x64 : Shape := ⟨2, ![262144, 64]⟩
abbrev S32x128 : Shape := ⟨2, ![32, 128]⟩
abbrev S128 : Shape := ⟨1, ![128]⟩
abbrev S128x128 : Shape := ⟨2, ![128, 128]⟩
abbrev S128x800 : Shape := ⟨2, ![128, 800]⟩
abbrev S800 : Shape := ⟨1, ![800]⟩
abbrev S64x64 : Shape := ⟨2, ![64, 64]⟩
abbrev S128x32 : Shape := ⟨2, ![128, 32]⟩
abbrev S128x1 : Shape := ⟨2, ![128, 1]⟩
abbrev S128x33 : Shape := ⟨2, ![128, 33]⟩
abbrev S128x129 : Shape := ⟨2, ![128, 129]⟩
abbrev S128x32x25 : Shape := ⟨3, ![128, 32, 25]⟩
abbrev S25x32x128 : Shape := ⟨3, ![25, 32, 128]⟩
abbrev S800x128 : Shape := ⟨2, ![800, 128]⟩
abbrev S32x25 : Shape := ⟨2, ![32, 25]⟩
abbrev S25x32 : Shape := ⟨2, ![25, 32]⟩
abbrev S800x1 : Shape := ⟨2, ![800, 1]⟩
abbrev S800x129 : Shape := ⟨2, ![800, 129]⟩
abbrev S64x262144 : Shape := ⟨2, ![64, 262144]⟩
abbrev S1x262144 : Shape := ⟨2, ![1, 262144]⟩
abbrev S64x4096 : Shape := ⟨2, ![64, 4096]⟩
abbrev S1x4096 : Shape := ⟨2, ![1, 4096]⟩
abbrev S32x4096 : Shape := ⟨2, ![32, 4096]⟩
abbrev S33x4096 : Shape := ⟨2, ![33, 4096]⟩
abbrev S128x4096 : Shape := ⟨2, ![128, 4096]⟩
abbrev S1x128 : Shape := ⟨2, ![1, 128]⟩
abbrev S129x4096 : Shape := ⟨2, ![129, 4096]⟩
abbrev S800x4096 : Shape := ⟨2, ![800, 4096]⟩
abbrev S1x32 : Shape := ⟨2, ![1, 32]⟩
abbrev S262144 : Shape := ⟨1, ![262144]⟩

abbrev nBuf : Space → Nat
  | .hbm => 34
  | .vmem => 14
  | .smem => 0
  | _ => 0

abbrev bufTy : (tb : Table) → Fin (tcTables nBuf tb) → BufTy
  | .hbm, ⟨0, _⟩ => ⟨S262144x64, .f32⟩
  | .hbm, ⟨1, _⟩ => ⟨S32x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x800, .f32⟩
  | .hbm, ⟨10, _⟩ => ⟨S800, .f32⟩
  | .hbm, ⟨11, _⟩ => ⟨S64x64, .f32⟩
  | .hbm, ⟨12, _⟩ => ⟨S128x32, .f32⟩
  | .hbm, ⟨13, _⟩ => ⟨S128x1, .f32⟩
  | .hbm, ⟨14, _⟩ => ⟨S128x33, .f32⟩
  | .hbm, ⟨15, _⟩ => ⟨S128x128, .f32⟩
  | .hbm, ⟨16, _⟩ => ⟨S128x1, .f32⟩
  | .hbm, ⟨17, _⟩ => ⟨S128x129, .f32⟩
  | .hbm, ⟨18, _⟩ => ⟨S128x32x25, .f32⟩
  | .hbm, ⟨19, _⟩ => ⟨S25x32x128, .f32⟩
  | .hbm, ⟨20, _⟩ => ⟨S800x128, .f32⟩
  | .hbm, ⟨21, _⟩ => ⟨S32x25, .f32⟩
  | .hbm, ⟨22, _⟩ => ⟨S25x32, .f32⟩
  | .hbm, ⟨23, _⟩ => ⟨S800x1, .f32⟩
  | .hbm, ⟨24, _⟩ => ⟨S800x129, .f32⟩
  | .hbm, ⟨25, _⟩ => ⟨S64x262144, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S64x262144, .f32⟩
  | .hbm, ⟨31, _⟩ => ⟨S1x262144, .f32⟩
  | .hbm, ⟨32, _⟩ => ⟨S262144, .f32⟩
  | .hbm, ⟨33, _⟩ => ⟨S262144x64, .f32⟩
  | .local _ .vmem, ⟨0, _⟩ => ⟨S64x4096, .f32⟩
  | .local _ .vmem, ⟨1, _⟩ => ⟨S64x4096, .f32⟩
  | .local _ .vmem, ⟨2, _⟩ => ⟨S64x64, .f32⟩
  | .local _ .vmem, ⟨3, _⟩ => ⟨S128x33, .f32⟩
  | .local _ .vmem, ⟨4, _⟩ => ⟨S128x1, .f32⟩
  | .local _ .vmem, ⟨5, _⟩ => ⟨S128x1, .f32⟩
  | .local _ .vmem, ⟨6, _⟩ => ⟨S128x129, .f32⟩
  | .local _ .vmem, ⟨7, _⟩ => ⟨S128x1, .f32⟩
  | .local _ .vmem, ⟨8, _⟩ => ⟨S128x1, .f32⟩
  | .local _ .vmem, ⟨9, _⟩ => ⟨S800x129, .f32⟩
  | .local _ .vmem, ⟨10, _⟩ => ⟨S64x4096, .f32⟩
  | .local _ .vmem, ⟨11, _⟩ => ⟨S64x4096, .f32⟩
  | .local _ .vmem, ⟨12, _⟩ => ⟨S1x4096, .f32⟩
  | .local _ .vmem, ⟨13, _⟩ => ⟨S1x4096, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S800x129 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "bin_offset" => some ((3 / 500 : ℝ) : EReal)
  | "bin_scale" => some ((744 / 125 : ℝ) : EReal)
  | _ => none
-- ==== ReferenceIdeal.lean ====
abbrev S262144x64 : Shape := ⟨2, ![262144, 64]⟩
abbrev S32x128 : Shape := ⟨2, ![32, 128]⟩
abbrev S128 : Shape := ⟨1, ![128]⟩
abbrev S128x128 : Shape := ⟨2, ![128, 128]⟩
abbrev S128x800 : Shape := ⟨2, ![128, 800]⟩
abbrev S800 : Shape := ⟨1, ![800]⟩
abbrev S262144x32 : Shape := ⟨2, ![262144, 32]⟩
abbrev S262144x128 : Shape := ⟨2, ![262144, 128]⟩
abbrev S1x128 : Shape := ⟨2, ![1, 128]⟩
abbrev S_ : Shape := ⟨0, ![]⟩
abbrev S262144 : Shape := ⟨1, ![262144]⟩
abbrev S262144x1 : Shape := ⟨2, ![262144, 1]⟩
abbrev S262144x800 : Shape := ⟨2, ![262144, 800]⟩
abbrev S1x800 : Shape := ⟨2, ![1, 800]⟩
abbrev S262144x32x25 : Shape := ⟨3, ![262144, 32, 25]⟩
abbrev S262144x32x8 : Shape := ⟨3, ![262144, 32, 8]⟩
abbrev S262144x32x9 : Shape := ⟨3, ![262144, 32, 9]⟩
abbrev S262144x32x1 : Shape := ⟨3, ![262144, 32, 1]⟩
abbrev S262144x32x1x1 : Shape := ⟨4, ![262144, 32, 1, 1]⟩
abbrev S1 : Shape := ⟨1, ![1]⟩
abbrev S1x1x1x1 : Shape := ⟨4, ![1, 1, 1, 1]⟩
abbrev S262144x32x2 : Shape := ⟨3, ![262144, 32, 2]⟩

abbrev nBuf : Space → Nat
  | .hbm => 419
  | .vmem => 0
  | .smem => 0
  | _ => 0

abbrev hbmTy0_0 (i : Nat) : BufTy := match i % 128 with
  | 0 => ⟨S262144x64, .f32⟩
  | 1 => ⟨S32x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x800, .f32⟩
  | 10 => ⟨S800, .f32⟩
  | 11 => ⟨S262144x32, .f32⟩
  | 12 => ⟨S262144x32, .f32⟩
  | 13 => ⟨S262144x128, .f32⟩
  | 14 => ⟨S1x128, .f32⟩
  | 15 => ⟨S262144x128, .f32⟩
  | 16 => ⟨S262144x128, .f32⟩
  | 17 => ⟨S_, .f32⟩
  | 18 => ⟨S262144, .f32⟩
  | 19 => ⟨S262144x1, .f32⟩
  | 20 => ⟨S_, .f32⟩
  | 21 => ⟨S262144x1, .f32⟩
  | 22 => ⟨S262144x1, .f32⟩
  | 23 => ⟨S262144x128, .f32⟩
  | 24 => ⟨S262144x128, .f32⟩
  | 25 => ⟨S262144x128, .f32⟩
  | 26 => ⟨S_, .f32⟩
  | 27 => ⟨S262144, .f32⟩
  | 28 => ⟨S262144x1, .f32⟩
  | 29 => ⟨S_, .f32⟩
  | 30 => ⟨S262144x1, .f32⟩
  | 31 => ⟨S262144x1, .f32⟩
  | 32 => ⟨S262144x128, .f32⟩
  | 33 => ⟨S262144x128, .f32⟩
  | 34 => ⟨S_, .f32⟩
  | 35 => ⟨S262144x1, .f32⟩
  | 36 => ⟨S262144x1, .f32⟩
  | 37 => ⟨S262144x1, .f32⟩
  | 38 => ⟨S262144x128, .f32⟩
  | 39 => ⟨S262144x128, .f32⟩
  | 40 => ⟨S1x128, .f32⟩
  | 41 => ⟨S262144x128, .f32⟩
  | 42 => ⟨S262144x128, .f32⟩
  | 43 => ⟨S1x128, .f32⟩
  | 44 => ⟨S262144x128, .f32⟩
  | 45 => ⟨S262144x128, .f32⟩
  | 46 => ⟨S_, .f32⟩
  | 47 => ⟨S262144x128, .f32⟩
  | 48 => ⟨S262144x128, .f32⟩
  | 49 => ⟨S262144x128, .f32⟩
  | 50 => ⟨S1x128, .f32⟩
  | 51 => ⟨S262144x128, .f32⟩
  | 52 => ⟨S262144x128, .f32⟩
  | 53 => ⟨S_, .f32⟩
  | 54 => ⟨S262144, .f32⟩
  | 55 => ⟨S262144x1, .f32⟩
  | 56 => ⟨S_, .f32⟩
  | 57 => ⟨S262144x1, .f32⟩
  | 58 => ⟨S262144x1, .f32⟩
  | 59 => ⟨S262144x128, .f32⟩
  | 60 => ⟨S262144x128, .f32⟩
  | 61 => ⟨S262144x128, .f32⟩
  | 62 => ⟨S_, .f32⟩
  | 63 => ⟨S262144, .f32⟩
  | 64 => ⟨S262144x1, .f32⟩
  | 65 => ⟨S_, .f32⟩
  | 66 => ⟨S262144x1, .f32⟩
  | 67 => ⟨S262144x1, .f32⟩
  | 68 => ⟨S262144x128, .f32⟩
  | 69 => ⟨S262144x128, .f32⟩
  | 70 => ⟨S_, .f32⟩
  | 71 => ⟨S262144x1, .f32⟩
  | 72 => ⟨S262144x1, .f32⟩
  | 73 => ⟨S262144x1, .f32⟩
  | 74 => ⟨S262144x128, .f32⟩
  | 75 => ⟨S262144x128, .f32⟩
  | 76 => ⟨S1x128, .f32⟩
  | 77 => ⟨S262144x128, .f32⟩
  | 78 => ⟨S262144x128, .f32⟩
  | 79 => ⟨S1x128, .f32⟩
  | 80 => ⟨S262144x128, .f32⟩
  | 81 => ⟨S262144x128, .f32⟩
  | 82 => ⟨S_, .f32⟩
  | 83 => ⟨S262144x128, .f32⟩
  | 84 => ⟨S262144x128, .f32⟩
  | 85 => ⟨S262144x128, .f32⟩
  | 86 => ⟨S262144x800, .f32⟩
  | 87 => ⟨S1x800, .f32⟩
  | 88 => ⟨S262144x800, .f32⟩
  | 89 => ⟨S262144x800, .f32⟩
  | 90 => ⟨S262144x32x25, .f32⟩
  | 91 => ⟨S262144x32x8, .f32⟩
  | 92 => ⟨S262144x32x8, .f32⟩
  | 93 => ⟨S262144x32x9, .f32⟩
  | 94 => ⟨S_, .f32⟩
  | 95 => ⟨S_, .f32⟩
  | 96 => ⟨S_, .f32⟩
  | 97 => ⟨S_, .f32⟩
  | 98 => ⟨S262144x32, .f32⟩
  | 99 => ⟨S_, .f32⟩
  | 100 => ⟨S262144x32, .f32⟩
  | 101 => ⟨S262144x32, .f32⟩
  | 102 => ⟨S262144x32x1, .f32⟩
  | 103 => ⟨S262144x32x8, .f32⟩
  | 104 => ⟨S262144x32x8, .f32⟩
  | 105 => ⟨S262144x32x8, .f32⟩
  | 106 => ⟨S_, .f32⟩
  | 107 => ⟨S262144x32, .f32⟩
  | 108 => ⟨S262144x32x1, .f32⟩
  | 109 => ⟨S262144x32x8, .f32⟩
  | 110 => ⟨S262144x32x8, .f32⟩
  | 111 => ⟨S_, .f32⟩
  | 112 => ⟨S_, .f32⟩
  | 113 => ⟨S_, .f32⟩
  | 114 => ⟨S_, .f32⟩
  | 115 => ⟨S262144x32x8, .f32⟩
  | 116 => ⟨S262144x32x8, .f32⟩
  | 117 => ⟨S262144x32x8, .f32⟩
  | 118 => ⟨S262144x32x8, .f32⟩
  | 119 => ⟨S_, .f32⟩
  | 120 => ⟨S262144x32x8, .f32⟩
  | 121 => ⟨S262144x32x8, .f32⟩
  | 122 => ⟨S_, .f32⟩
  | 123 => ⟨S262144x32, .f32⟩
  | 124 => ⟨S_, .f32⟩
  | 125 => ⟨S262144x32, .f32⟩
  | 126 => ⟨S262144x32, .f32⟩
  | 127 => ⟨S262144x32x1, .f32⟩
  | _ => ⟨S262144x64, .f32⟩

abbrev hbmTy0_1 (i : Nat) : BufTy := match i % 128 with
  | 0 => ⟨S262144x32x8, .f32⟩
  | 1 => ⟨S262144x32x8, .f32⟩
  | 2 => ⟨S262144x32x8, .f32⟩
  | 3 => ⟨S_, .f32⟩
  | 4 => ⟨S262144x32, .f32⟩
  | 5 => ⟨S262144x32x1, .f32⟩
  | 6 => ⟨S262144x32x8, .f32⟩
  | 7 => ⟨S262144x32x8, .f32⟩
  | 8 => ⟨S_, .f32⟩
  | 9 => ⟨S_, .f32⟩
  | 10 => ⟨S_, .f32⟩
  | 11 => ⟨S_, .f32⟩
  | 12 => ⟨S262144x32x8, .f32⟩
  | 13 => ⟨S262144x32x8, .f32⟩
  | 14 => ⟨S262144x32x8, .f32⟩
  | 15 => ⟨S262144x32x8, .f32⟩
  | 16 => ⟨S_, .f32⟩
  | 17 => ⟨S262144x32x8, .f32⟩
  | 18 => ⟨S262144x32x8, .f32⟩
  | 19 => ⟨S_, .f32⟩
  | 20 => ⟨S262144x32x9, .f32⟩
  | 21 => ⟨S262144x32x9, .f32⟩
  | 22 => ⟨S262144x32x9, .f32⟩
  | 23 => ⟨S262144x32x9, .f32⟩
  | 24 => ⟨S262144x32x9, .i1⟩
  | 25 => ⟨S262144x32x9, .f32⟩
  | 26 => ⟨S262144x32x9, .f32⟩
  | 27 => ⟨S262144x32x9, .f32⟩
  | 28 => ⟨S262144x32x9, .f32⟩
  | 29 => ⟨S262144x32x9, .f32⟩
  | 30 => ⟨S262144x32x9, .f32⟩
  | 31 => ⟨S262144x32x9, .f32⟩
  | 32 => ⟨S262144x32x9, .f32⟩
  | 33 => ⟨S_, .f32⟩
  | 34 => ⟨S262144x32x9, .f32⟩
  | 35 => ⟨S262144x32x9, .f32⟩
  | 36 => ⟨S262144x32x1, .f32⟩
  | 37 => ⟨S_, .f32⟩
  | 38 => ⟨S262144x32x1, .f32⟩
  | 39 => ⟨S_, .f32⟩
  | 40 => ⟨S_, .f32⟩
  | 41 => ⟨S262144x32x8, .f32⟩
  | 42 => ⟨S262144x32x9, .f32⟩
  | 43 => ⟨S_, .f32⟩
  | 44 => ⟨S262144x32x9, .f32⟩
  | 45 => ⟨S262144x32x9, .f32⟩
  | 46 => ⟨S262144x32x1, .f32⟩
  | 47 => ⟨S_, .f32⟩
  | 48 => ⟨S262144x32x1, .f32⟩
  | 49 => ⟨S_, .f32⟩
  | 50 => ⟨S_, .f32⟩
  | 51 => ⟨S262144x32x8, .f32⟩
  | 52 => ⟨S262144x32x9, .f32⟩
  | 53 => ⟨S_, .f32⟩
  | 54 => ⟨S262144x32x9, .f32⟩
  | 55 => ⟨S262144x32x9, .f32⟩
  | 56 => ⟨S_, .f32⟩
  | 57 => ⟨S262144x32, .f32⟩
  | 58 => ⟨S262144x32, .i1⟩
  | 59 => ⟨S_, .f32⟩
  | 60 => ⟨S262144x32, .f32⟩
  | 61 => ⟨S262144x32, .i1⟩
  | 62 => ⟨S262144x32, .i1⟩
  | 63 => ⟨S_, .f32⟩
  | 64 => ⟨S_, .f32⟩
  | 65 => ⟨S_, .f32⟩
  | 66 => ⟨S262144x32, .f32⟩
  | 67 => ⟨S262144x32, .f32⟩
  | 68 => ⟨S_, .f32⟩
  | 69 => ⟨S262144x32, .f32⟩
  | 70 => ⟨S262144x32, .f32⟩
  | 71 => ⟨S262144x32x1, .f32⟩
  | 72 => ⟨S262144x32x9, .f32⟩
  | 73 => ⟨S262144x32x9, .i1⟩
  | 74 => ⟨S262144x32x9, .i32⟩
  | 75 => ⟨S_, .i32⟩
  | 76 => ⟨S262144x32, .i32⟩
  | 77 => ⟨S_, .i32⟩
  | 78 => ⟨S262144x32, .i32⟩
  | 79 => ⟨S262144x32, .i32⟩
  | 80 => ⟨S_, .i32⟩
  | 81 => ⟨S_, .i32⟩
  | 82 => ⟨S_, .i32⟩
  | 83 => ⟨S262144x32, .i32⟩
  | 84 => ⟨S262144x32, .i32⟩
  | 85 => ⟨S_, .i32⟩
  | 86 => ⟨S262144x32, .i32⟩
  | 87 => ⟨S262144x32, .i32⟩
  | 88 => ⟨S262144x32x1, .i32⟩
  | 89 => ⟨S_, .i32⟩
  | 90 => ⟨S262144x32x1, .i32⟩
  | 91 => ⟨S262144x32x1, .i1⟩
  | 92 => ⟨S_, .i32⟩
  | 93 => ⟨S262144x32x1, .i32⟩
  | 94 => ⟨S262144x32x1, .i32⟩
  | 95 => ⟨S262144x32x1, .i32⟩
  | 96 => ⟨S262144x32x1x1, .i32⟩
  | 97 => ⟨S1, .i32⟩
  | 98 => ⟨S_, .i32⟩
  | 99 => ⟨S262144x32x1x1, .i32⟩
  | 100 => ⟨S262144x32x1x1, .i1⟩
  | 101 => ⟨S1x1x1x1, .i32⟩
  | 102 => ⟨S262144x32x1x1, .i32⟩
  | 103 => ⟨S262144x32x1x1, .i1⟩
  | 104 => ⟨S262144x32x1x1, .i1⟩
  | 105 => ⟨S_, .i1⟩
  | 106 => ⟨S262144x32x1, .i1⟩
  | 107 => ⟨S262144x32x1, .f32⟩
  | 108 => ⟨S_, .f32⟩
  | 109 => ⟨S262144x32x1, .f32⟩
  | 110 => ⟨S262144x32x1, .f32⟩
  | 111 => ⟨S262144x32, .f32⟩
  | 112 => ⟨S262144x32x1, .i32⟩
  | 113 => ⟨S_, .i32⟩
  | 114 => ⟨S262144x32x1, .i32⟩
  | 115 => ⟨S262144x32x1, .i1⟩
  | 116 => ⟨S_, .i32⟩
  | 117 => ⟨S262144x32x1, .i32⟩
  | 118 => ⟨S262144x32x1, .i32⟩
  | 119 => ⟨S262144x32x1, .i32⟩
  | 120 => ⟨S262144x32x1x1, .i32⟩
  | 121 => ⟨S1, .i32⟩
  | 122 => ⟨S_, .i32⟩
  | 123 => ⟨S262144x32x1x1, .i32⟩
  | 124 => ⟨S262144x32x1x1, .i1⟩
  | 125 => ⟨S1x1x1x1, .i32⟩
  | 126 => ⟨S262144x32x1x1, .i32⟩
  | 127 => ⟨S262144x32x1x1, .i1⟩
  | _ => ⟨S262144x64, .f32⟩

abbrev hbmTy0_2 (i : Nat) : BufTy := match i % 128 with
  | 0 => ⟨S262144x32x1x1, .i1⟩
  | 1 => ⟨S_, .i1⟩
  | 2 => ⟨S262144x32x1, .i1⟩
  | 3 => ⟨S262144x32x1, .f32⟩
  | 4 => ⟨S_, .f32⟩
  | 5 => ⟨S262144x32x1, .f32⟩
  | 6 => ⟨S262144x32x1, .f32⟩
  | 7 => ⟨S262144x32, .f32⟩
  | 8 => ⟨S262144x32x1, .i32⟩
  | 9 => ⟨S_, .i32⟩
  | 10 => ⟨S262144x32x1, .i32⟩
  | 11 => ⟨S262144x32x1, .i1⟩
  | 12 => ⟨S_, .i32⟩
  | 13 => ⟨S262144x32x1, .i32⟩
  | 14 => ⟨S262144x32x1, .i32⟩
  | 15 => ⟨S262144x32x1, .i32⟩
  | 16 => ⟨S262144x32x1x1, .i32⟩
  | 17 => ⟨S1, .i32⟩
  | 18 => ⟨S_, .i32⟩
  | 19 => ⟨S262144x32x1x1, .i32⟩
  | 20 => ⟨S262144x32x1x1, .i1⟩
  | 21 => ⟨S1x1x1x1, .i32⟩
  | 22 => ⟨S262144x32x1x1, .i32⟩
  | 23 => ⟨S262144x32x1x1, .i1⟩
  | 24 => ⟨S262144x32x1x1, .i1⟩
  | 25 => ⟨S_, .i1⟩
  | 26 => ⟨S262144x32x1, .i1⟩
  | 27 => ⟨S262144x32x1, .f32⟩
  | 28 => ⟨S_, .f32⟩
  | 29 => ⟨S262144x32x1, .f32⟩
  | 30 => ⟨S262144x32x1, .f32⟩
  | 31 => ⟨S262144x32, .f32⟩
  | 32 => ⟨S262144x32x1, .i32⟩
  | 33 => ⟨S_, .i32⟩
  | 34 => ⟨S262144x32x1, .i32⟩
  | 35 => ⟨S262144x32x1, .i1⟩
  | 36 => ⟨S_, .i32⟩
  | 37 => ⟨S262144x32x1, .i32⟩
  | 38 => ⟨S262144x32x1, .i32⟩
  | 39 => ⟨S262144x32x1, .i32⟩
  | 40 => ⟨S262144x32x1x1, .i32⟩
  | 41 => ⟨S1, .i32⟩
  | 42 => ⟨S_, .i32⟩
  | 43 => ⟨S262144x32x1x1, .i32⟩
  | 44 => ⟨S262144x32x1x1, .i1⟩
  | 45 => ⟨S1x1x1x1, .i32⟩
  | 46 => ⟨S262144x32x1x1, .i32⟩
  | 47 => ⟨S262144x32x1x1, .i1⟩
  | 48 => ⟨S262144x32x1x1, .i1⟩
  | 49 => ⟨S_, .i1⟩
  | 50 => ⟨S262144x32x1, .i1⟩
  | 51 => ⟨S262144x32x1, .f32⟩
  | 52 => ⟨S_, .f32⟩
  | 53 => ⟨S262144x32x1, .f32⟩
  | 54 => ⟨S262144x32x1, .f32⟩
  | 55 => ⟨S262144x32, .f32⟩
  | 56 => ⟨S262144x32x1, .i32⟩
  | 57 => ⟨S_, .i32⟩
  | 58 => ⟨S262144x32x1, .i32⟩
  | 59 => ⟨S262144x32x1, .i1⟩
  | 60 => ⟨S_, .i32⟩
  | 61 => ⟨S262144x32x1, .i32⟩
  | 62 => ⟨S262144x32x1, .i32⟩
  | 63 => ⟨S262144x32x1, .i32⟩
  | 64 => ⟨S262144x32x1x1, .i32⟩
  | 65 => ⟨S1, .i32⟩
  | 66 => ⟨S_, .i32⟩
  | 67 => ⟨S262144x32x1x1, .i32⟩
  | 68 => ⟨S262144x32x1x1, .i1⟩
  | 69 => ⟨S1x1x1x1, .i32⟩
  | 70 => ⟨S262144x32x1x1, .i32⟩
  | 71 => ⟨S262144x32x1x1, .i1⟩
  | 72 => ⟨S262144x32x1x1, .i1⟩
  | 73 => ⟨S_, .i1⟩
  | 74 => ⟨S262144x32x1, .i1⟩
  | 75 => ⟨S262144x32x1, .f32⟩
  | 76 => ⟨S_, .f32⟩
  | 77 => ⟨S262144x32x1, .f32⟩
  | 78 => ⟨S262144x32x1, .f32⟩
  | 79 => ⟨S262144x32, .f32⟩
  | 80 => ⟨S_, .i32⟩
  | 81 => ⟨S262144x32, .i32⟩
  | 82 => ⟨S262144x32, .i32⟩
  | 83 => ⟨S262144x32x1, .i32⟩
  | 84 => ⟨S_, .i32⟩
  | 85 => ⟨S262144x32x1, .i32⟩
  | 86 => ⟨S262144x32x1, .i1⟩
  | 87 => ⟨S_, .i32⟩
  | 88 => ⟨S262144x32x1, .i32⟩
  | 89 => ⟨S262144x32x1, .i32⟩
  | 90 => ⟨S262144x32x1, .i32⟩
  | 91 => ⟨S262144x32x1x1, .i32⟩
  | 92 => ⟨S1, .i32⟩
  | 93 => ⟨S_, .i32⟩
  | 94 => ⟨S262144x32x1x1, .i32⟩
  | 95 => ⟨S262144x32x1x1, .i1⟩
  | 96 => ⟨S1x1x1x1, .i32⟩
  | 97 => ⟨S262144x32x1x1, .i32⟩
  | 98 => ⟨S262144x32x1x1, .i1⟩
  | 99 => ⟨S262144x32x1x1, .i1⟩
  | 100 => ⟨S_, .i1⟩
  | 101 => ⟨S262144x32x1, .i1⟩
  | 102 => ⟨S262144x32x1, .f32⟩
  | 103 => ⟨S_, .f32⟩
  | 104 => ⟨S262144x32x1, .f32⟩
  | 105 => ⟨S262144x32x1, .f32⟩
  | 106 => ⟨S262144x32, .f32⟩
  | 107 => ⟨S262144x32, .f32⟩
  | 108 => ⟨S262144x32, .f32⟩
  | 109 => ⟨S262144x32, .f32⟩
  | 110 => ⟨S_, .f32⟩
  | 111 => ⟨S262144x32, .f32⟩
  | 112 => ⟨S262144x32, .f32⟩
  | 113 => ⟨S262144x32, .f32⟩
  | 114 => ⟨S262144x32, .f32⟩
  | 115 => ⟨S_, .f32⟩
  | 116 => ⟨S262144x32, .f32⟩
  | 117 => ⟨S262144x32, .f32⟩
  | 118 => ⟨S262144x32, .f32⟩
  | 119 => ⟨S262144x32, .f32⟩
  | 120 => ⟨S262144x32, .f32⟩
  | 121 => ⟨S262144x32, .f32⟩
  | 122 => ⟨S262144x32, .f32⟩
  | 123 => ⟨S262144x32, .f32⟩
  | 124 => ⟨S262144x32, .f32⟩
  | 125 => ⟨S262144x32, .f32⟩
  | 126 => ⟨S262144x32, .f32⟩
  | 127 => ⟨S262144x32, .f32⟩
  | _ => ⟨S262144x64, .f32⟩

abbrev hbmTy0_3 (i : Nat) : BufTy := match i % 128 with
  | 0 => ⟨S262144x32, .f32⟩
  | 1 => ⟨S_, .f32⟩
  | 2 => ⟨S262144x32, .f32⟩
  | 3 => ⟨S262144x32, .f32⟩
  | 4 => ⟨S262144x32, .f32⟩
  | 5 => ⟨S262144x32, .f32⟩
  | 6 => ⟨S_, .f32⟩
  | 7 => ⟨S262144x32, .f32⟩
  | 8 => ⟨S262144x32, .f32⟩
  | 9 => ⟨S262144x32, .f32⟩
  | 10 => ⟨S262144x32, .f32⟩
  | 11 => ⟨S_, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S_, .f32⟩
  | 21 => ⟨S262144x32, .f32⟩
  | 22 => ⟨S262144x32, .f32⟩
  | 23 => ⟨S262144x32, .f32⟩
  | 24 => ⟨S262144x32, .f32⟩
  | 25 => ⟨S_, .f32⟩
  | 26 => ⟨S_, .f32⟩
  | 27 => ⟨S262144x32, .f32⟩
  | 28 => ⟨S262144x32, .f32⟩
  | 29 => ⟨S_, .f32⟩
  | 30 => ⟨S262144, .f32⟩
  | 31 => ⟨S262144x32x1, .f32⟩
  | 32 => ⟨S262144x32x1, .f32⟩
  | 33 => ⟨S262144x32x2, .f32⟩
  | 34 => ⟨S262144x64, .f32⟩
  | _ => ⟨S262144x64, .f32⟩

abbrev hbmTy (i : Nat) : BufTy := match i / 128 with
  | 0 => hbmTy0_0 i
  | 1 => hbmTy0_1 i
  | 2 => hbmTy0_2 i
  | 3 => hbmTy0_3 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_cst_10 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_cst_18 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_20 : Ref sig .tc := ⟨.hbm, 136, rfl⟩
abbrev main_v100 : Ref sig .tc := ⟨.hbm, 137, rfl⟩
abbrev main_cst_21 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_v8 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_24 : Ref sig .tc := ⟨.hbm, 165, rfl⟩
abbrev main_v112 : Ref sig .tc := ⟨.hbm, 166, rfl⟩
abbrev main_call3_call0_cst : Ref sig .tc := ⟨.hbm, 167, rfl⟩
abbrev main_call3_call0_v0 : Ref sig .tc := ⟨.hbm, 168, rfl⟩
abbrev main_v113 : Ref sig .tc := ⟨.hbm, 169, rfl⟩
abbrev main_v114 : Ref sig .tc := ⟨.hbm, 170, rfl⟩
abbrev main_cst_25 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_26 : Ref sig .tc := ⟨.hbm, 175, rfl⟩
abbrev main_v118 : Ref sig .tc := ⟨.hbm, 176, rfl⟩
abbrev main_call4_call0_cst : Ref sig .tc := ⟨.hbm, 177, rfl⟩
abbrev main_call4_call0_v0 : Ref sig .tc := ⟨.hbm, 178, rfl⟩
abbrev main_v119 : Ref sig .tc := ⟨.hbm, 179, rfl⟩
abbrev main_v120 : Ref sig .tc := ⟨.hbm, 180, rfl⟩
abbrev main_cst_27 : Ref sig .tc := ⟨.hbm, 181, rfl⟩
abbrev main_v121 : Ref sig .tc := ⟨.hbm, 182, rfl⟩
abbrev main_v122 : Ref sig .tc := ⟨.hbm, 183, rfl⟩
abbrev main_cst_28 : Ref sig .tc := ⟨.hbm, 184, rfl⟩
abbrev main_v123 : Ref sig .tc := ⟨.hbm, 185, rfl⟩
abbrev main_v124 : Ref sig .tc := ⟨.hbm, 186, rfl⟩
abbrev main_cst_29 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_cst_30 : Ref sig .tc := ⟨.hbm, 191, rfl⟩
abbrev main_cst_31 : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c : Ref sig .tc := ⟨.hbm, 203, rfl⟩
abbrev main_v133 : Ref sig .tc := ⟨.hbm, 204, rfl⟩
abbrev main_c_32 : Ref sig .tc := ⟨.hbm, 205, rfl⟩
abbrev main_v134 : Ref sig .tc := ⟨.hbm, 206, rfl⟩
abbrev main_v135 : Ref sig .tc := ⟨.hbm, 207, rfl⟩
abbrev main_c_33 : Ref sig .tc := ⟨.hbm, 208, rfl⟩
abbrev main_c_34 : Ref sig .tc := ⟨.hbm, 209, rfl⟩
abbrev main_call6_v0 : Ref sig .tc := ⟨.hbm, 210, rfl⟩
abbrev main_call6_v1 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_v136 : Ref sig .tc := ⟨.hbm, 215, rfl⟩
abbrev main_v137 : Ref sig .tc := ⟨.hbm, 216, rfl⟩
abbrev main_call7_c : Ref sig .tc := ⟨.hbm, 217, rfl⟩
abbrev main_call7_v0 : Ref sig .tc := ⟨.hbm, 218, rfl⟩
abbrev main_call7_v1 : Ref sig .tc := ⟨.hbm, 219, rfl⟩
abbrev main_call7_c_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_c_1 : Ref sig .tc := ⟨.hbm, 225, rfl⟩
abbrev main_call7_c_2 : Ref sig .tc := ⟨.hbm, 226, rfl⟩
abbrev main_call7_v6 : Ref sig .tc := ⟨.hbm, 227, rfl⟩
abbrev main_call7_v7 : Ref sig .tc := ⟨.hbm, 228, rfl⟩
abbrev main_call7_v8 : Ref sig .tc := ⟨.hbm, 229, rfl⟩
abbrev main_call7_v9 : Ref sig .tc := ⟨.hbm, 230, rfl⟩
abbrev main_call7_v10 : Ref sig .tc := ⟨.hbm, 231, rfl⟩
abbrev main_call7_v11 : Ref sig .tc := ⟨.hbm, 232, rfl⟩
abbrev main_call7_c_3 : Ref sig .tc := ⟨.hbm, 233, rfl⟩
abbrev main_call7_v12 : Ref sig .tc := ⟨.hbm, 234, rfl⟩
abbrev main_call7_v13 : Ref sig .tc := ⟨.hbm, 235, rfl⟩
abbrev main_call7_cst : Ref sig .tc := ⟨.hbm, 236, rfl⟩
abbrev main_call7_v14 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_call8_c : Ref sig .tc := ⟨.hbm, 241, rfl⟩
abbrev main_call8_v0 : Ref sig .tc := ⟨.hbm, 242, rfl⟩
abbrev main_call8_v1 : Ref sig .tc := ⟨.hbm, 243, rfl⟩
abbrev main_call8_c_0 : Ref sig .tc := ⟨.hbm, 244, rfl⟩
abbrev main_call8_v2 : Ref sig .tc := ⟨.hbm, 245, rfl⟩
abbrev main_call8_v3 : Ref sig .tc := ⟨.hbm, 246, rfl⟩
abbrev main_call8_v4 : Ref sig .tc := ⟨.hbm, 247, rfl⟩
abbrev main_call8_v5 : Ref sig .tc := ⟨.hbm, 248, rfl⟩
abbrev main_call8_c_1 : Ref sig .tc := ⟨.hbm, 249, rfl⟩
abbrev main_call8_c_2 : Ref sig .tc := ⟨.hbm, 250, rfl⟩
abbrev main_call8_v6 : Ref sig .tc := ⟨.hbm, 251, rfl⟩
abbrev main_call8_v7 : Ref sig .tc := ⟨.hbm, 252, rfl⟩
abbrev main_call8_v8 : Ref sig .tc := ⟨.hbm, 253, rfl⟩
abbrev main_call8_v9 : Ref sig .tc := ⟨.hbm, 254, rfl⟩
abbrev main_call8_v10 : Ref sig .tc := ⟨.hbm, 255, rfl⟩
abbrev main_call8_v11 : Ref sig .tc := ⟨.hbm, 256, rfl⟩
abbrev main_call8_c_3 : Ref sig .tc := ⟨.hbm, 257, rfl⟩
abbrev main_call8_v12 : Ref sig .tc := ⟨.hbm, 258, rfl⟩
abbrev main_call8_v13 : Ref sig .tc := ⟨.hbm, 259, rfl⟩
abbrev main_call8_cst : Ref sig .tc := ⟨.hbm, 260, rfl⟩
abbrev main_call8_v14 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_call9_c : Ref sig .tc := ⟨.hbm, 265, rfl⟩
abbrev main_call9_v0 : Ref sig .tc := ⟨.hbm, 266, rfl⟩
abbrev main_call9_v1 : Ref sig .tc := ⟨.hbm, 267, rfl⟩
abbrev main_call9_c_0 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_call9_v5 : Ref sig .tc := ⟨.hbm, 272, rfl⟩
abbrev main_call9_c_1 : Ref sig .tc := ⟨.hbm, 273, rfl⟩
abbrev main_call9_c_2 : Ref sig .tc := ⟨.hbm, 274, rfl⟩
abbrev main_call9_v6 : Ref sig .tc := ⟨.hbm, 275, rfl⟩
abbrev main_call9_v7 : Ref sig .tc := ⟨.hbm, 276, rfl⟩
abbrev main_call9_v8 : Ref sig .tc := ⟨.hbm, 277, rfl⟩
abbrev main_call9_v9 : Ref sig .tc := ⟨.hbm, 278, rfl⟩
abbrev main_call9_v10 : Ref sig .tc := ⟨.hbm, 279, rfl⟩
abbrev main_call9_v11 : Ref sig .tc := ⟨.hbm, 280, rfl⟩
abbrev main_call9_c_3 : Ref sig .tc := ⟨.hbm, 281, rfl⟩
abbrev main_call9_v12 : Ref sig .tc := ⟨.hbm, 282, rfl⟩
abbrev main_call9_v13 : Ref sig .tc := ⟨.hbm, 283, rfl⟩
abbrev main_call9_cst : Ref sig .tc := ⟨.hbm, 284, rfl⟩
abbrev main_call9_v14 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_call10_c : Ref sig .tc := ⟨.hbm, 289, rfl⟩
abbrev main_call10_v0 : Ref sig .tc := ⟨.hbm, 290, rfl⟩
abbrev main_call10_v1 : Ref sig .tc := ⟨.hbm, 291, rfl⟩
abbrev main_call10_c_0 : Ref sig .tc := ⟨.hbm, 292, rfl⟩
abbrev main_call10_v2 : Ref sig .tc := ⟨.hbm, 293, rfl⟩
abbrev main_call10_v3 : Ref sig .tc := ⟨.hbm, 294, rfl⟩
abbrev main_call10_v4 : Ref sig .tc := ⟨.hbm, 295, rfl⟩
abbrev main_call10_v5 : Ref sig .tc := ⟨.hbm, 296, rfl⟩
abbrev main_call10_c_1 : Ref sig .tc := ⟨.hbm, 297, rfl⟩
abbrev main_call10_c_2 : Ref sig .tc := ⟨.hbm, 298, rfl⟩
abbrev main_call10_v6 : Ref sig .tc := ⟨.hbm, 299, rfl⟩
abbrev main_call10_v7 : Ref sig .tc := ⟨.hbm, 300, rfl⟩
abbrev main_call10_v8 : Ref sig .tc := ⟨.hbm, 301, rfl⟩
abbrev main_call10_v9 : Ref sig .tc := ⟨.hbm, 302, rfl⟩
abbrev main_call10_v10 : Ref sig .tc := ⟨.hbm, 303, rfl⟩
abbrev main_call10_v11 : Ref sig .tc := ⟨.hbm, 304, rfl⟩
abbrev main_call10_c_3 : Ref sig .tc := ⟨.hbm, 305, rfl⟩
abbrev main_call10_v12 : Ref sig .tc := ⟨.hbm, 306, rfl⟩
abbrev main_call10_v13 : Ref sig .tc := ⟨.hbm, 307, rfl⟩
abbrev main_call10_cst : Ref sig .tc := ⟨.hbm, 308, rfl⟩
abbrev main_call10_v14 : Ref sig .tc := ⟨.hbm, 309, rfl⟩
abbrev main_v147 : Ref sig .tc := ⟨.hbm, 310, rfl⟩
abbrev main_v148 : Ref sig .tc := ⟨.hbm, 311, rfl⟩
abbrev main_v149 : Ref sig .tc := ⟨.hbm, 312, rfl⟩
abbrev main_call11_c : Ref sig .tc := ⟨.hbm, 313, rfl⟩
abbrev main_call11_v0 : Ref sig .tc := ⟨.hbm, 314, rfl⟩
abbrev main_call11_v1 : Ref sig .tc := ⟨.hbm, 315, rfl⟩
abbrev main_call11_c_0 : Ref sig .tc := ⟨.hbm, 316, rfl⟩
abbrev main_call11_v2 : Ref sig .tc := ⟨.hbm, 317, rfl⟩
abbrev main_call11_v3 : Ref sig .tc := ⟨.hbm, 318, rfl⟩
abbrev main_call11_v4 : Ref sig .tc := ⟨.hbm, 319, rfl⟩
abbrev main_call11_v5 : Ref sig .tc := ⟨.hbm, 320, rfl⟩
abbrev main_call11_c_1 : Ref sig .tc := ⟨.hbm, 321, rfl⟩
abbrev main_call11_c_2 : Ref sig .tc := ⟨.hbm, 322, rfl⟩
abbrev main_call11_v6 : Ref sig .tc := ⟨.hbm, 323, rfl⟩
abbrev main_call11_v7 : Ref sig .tc := ⟨.hbm, 324, rfl⟩
abbrev main_call11_v8 : Ref sig .tc := ⟨.hbm, 325, rfl⟩
abbrev main_call11_v9 : Ref sig .tc := ⟨.hbm, 326, rfl⟩
abbrev main_call11_v10 : Ref sig .tc := ⟨.hbm, 327, rfl⟩
abbrev main_call11_v11 : Ref sig .tc := ⟨.hbm, 328, rfl⟩
abbrev main_call11_c_3 : Ref sig .tc := ⟨.hbm, 329, rfl⟩
abbrev main_call11_v12 : Ref sig .tc := ⟨.hbm, 330, rfl⟩
abbrev main_call11_v13 : Ref sig .tc := ⟨.hbm, 331, rfl⟩
abbrev main_call11_cst : Ref sig .tc := ⟨.hbm, 332, rfl⟩
abbrev main_call11_v14 : Ref sig .tc := ⟨.hbm, 333, rfl⟩
abbrev main_v150 : Ref sig .tc := ⟨.hbm, 334, rfl⟩
abbrev main_v151 : Ref sig .tc := ⟨.hbm, 335, rfl⟩
abbrev main_c_35 : Ref sig .tc := ⟨.hbm, 336, rfl⟩
abbrev main_v152 : Ref sig .tc := ⟨.hbm, 337, rfl⟩
abbrev main_v153 : Ref sig .tc := ⟨.hbm, 338, rfl⟩
abbrev main_v154 : Ref sig .tc := ⟨.hbm, 339, rfl⟩
abbrev main_call12_c : Ref sig .tc := ⟨.hbm, 340, rfl⟩
abbrev main_call12_v0 : Ref sig .tc := ⟨.hbm, 341, rfl⟩
abbrev main_call12_v1 : Ref sig .tc := ⟨.hbm, 342, rfl⟩
abbrev main_call12_c_0 : Ref sig .tc := ⟨.hbm, 343, rfl⟩
abbrev main_call12_v2 : Ref sig .tc := ⟨.hbm, 344, rfl⟩
abbrev main_call12_v3 : Ref sig .tc := ⟨.hbm, 345, rfl⟩
abbrev main_call12_v4 : Ref sig .tc := ⟨.hbm, 346, rfl⟩
abbrev main_call12_v5 : Ref sig .tc := ⟨.hbm, 347, rfl⟩
abbrev main_call12_c_1 : Ref sig .tc := ⟨.hbm, 348, rfl⟩
abbrev main_call12_c_2 : Ref sig .tc := ⟨.hbm, 349, rfl⟩
abbrev main_call12_v6 : Ref sig .tc := ⟨.hbm, 350, rfl⟩
abbrev main_call12_v7 : Ref sig .tc := ⟨.hbm, 351, rfl⟩
abbrev main_call12_v8 : Ref sig .tc := ⟨.hbm, 352, rfl⟩
abbrev main_call12_v9 : Ref sig .tc := ⟨.hbm, 353, rfl⟩
abbrev main_call12_v10 : Ref sig .tc := ⟨.hbm, 354, rfl⟩
abbrev main_call12_v11 : Ref sig .tc := ⟨.hbm, 355, rfl⟩
abbrev main_call12_c_3 : Ref sig .tc := ⟨.hbm, 356, rfl⟩
abbrev main_call12_v12 : Ref sig .tc := ⟨.hbm, 357, rfl⟩
abbrev main_call12_v13 : Ref sig .tc := ⟨.hbm, 358, rfl⟩
abbrev main_call12_cst : Ref sig .tc := ⟨.hbm, 359, rfl⟩
abbrev main_call12_v14 : Ref sig .tc := ⟨.hbm, 360, rfl⟩
abbrev main_v155 : Ref sig .tc := ⟨.hbm, 361, rfl⟩
abbrev main_v156 : Ref sig .tc := ⟨.hbm, 362, rfl⟩
abbrev main_v157 : Ref sig .tc := ⟨.hbm, 363, rfl⟩
abbrev main_v158 : Ref sig .tc := ⟨.hbm, 364, rfl⟩
abbrev main_v159 : Ref sig .tc := ⟨.hbm, 365, rfl⟩
abbrev main_cst_36 : Ref sig .tc := ⟨.hbm, 366, rfl⟩
abbrev main_v160 : Ref sig .tc := ⟨.hbm, 367, rfl⟩
abbrev main_v161 : Ref sig .tc := ⟨.hbm, 368, rfl⟩
abbrev main_v162 : Ref sig .tc := ⟨.hbm, 369, rfl⟩
abbrev main_v163 : Ref sig .tc := ⟨.hbm, 370, rfl⟩
abbrev main_cst_37 : Ref sig .tc := ⟨.hbm, 371, rfl⟩
abbrev main_v164 : Ref sig .tc := ⟨.hbm, 372, rfl⟩
abbrev main_v165 : Ref sig .tc := ⟨.hbm, 373, rfl⟩
abbrev main_v166 : Ref sig .tc := ⟨.hbm, 374, rfl⟩
abbrev main_v167 : Ref sig .tc := ⟨.hbm, 375, rfl⟩
abbrev main_v168 : Ref sig .tc := ⟨.hbm, 376, rfl⟩
abbrev main_v169 : Ref sig .tc := ⟨.hbm, 377, rfl⟩
abbrev main_v170 : Ref sig .tc := ⟨.hbm, 378, rfl⟩
abbrev main_v171 : Ref sig .tc := ⟨.hbm, 379, rfl⟩
abbrev main_v172 : Ref sig .tc := ⟨.hbm, 380, rfl⟩
abbrev main_v173 : Ref sig .tc := ⟨.hbm, 381, rfl⟩
abbrev main_v174 : Ref sig .tc := ⟨.hbm, 382, rfl⟩
abbrev main_v175 : Ref sig .tc := ⟨.hbm, 383, rfl⟩
abbrev main_v176 : Ref sig .tc := ⟨.hbm, 384, rfl⟩
abbrev main_cst_38 : Ref sig .tc := ⟨.hbm, 385, rfl⟩
abbrev main_v177 : Ref sig .tc := ⟨.hbm, 386, rfl⟩
abbrev main_v178 : Ref sig .tc := ⟨.hbm, 387, rfl⟩
abbrev main_v179 : Ref sig .tc := ⟨.hbm, 388, rfl⟩
abbrev main_v180 : Ref sig .tc := ⟨.hbm, 389, rfl⟩
abbrev main_cst_39 : Ref sig .tc := ⟨.hbm, 390, rfl⟩
abbrev main_v181 : Ref sig .tc := ⟨.hbm, 391, rfl⟩
abbrev main_v182 : Ref sig .tc := ⟨.hbm, 392, rfl⟩
abbrev main_v183 : Ref sig .tc := ⟨.hbm, 393, rfl⟩
abbrev main_v184 : Ref sig .tc := ⟨.hbm, 394, rfl⟩
abbrev main_cst_40 : Ref sig .tc := ⟨.hbm, 395, rfl⟩
abbrev main_v185 : Ref sig .tc := ⟨.hbm, 396, rfl⟩
abbrev main_v186 : Ref sig .tc := ⟨.hbm, 397, rfl⟩
abbrev main_v187 : Ref sig .tc := ⟨.hbm, 398, rfl⟩
abbrev main_v188 : Ref sig .tc := ⟨.hbm, 399, rfl⟩
abbrev main_v189 : Ref sig .tc := ⟨.hbm, 400, rfl⟩
abbrev main_v190 : Ref sig .tc := ⟨.hbm, 401, rfl⟩
abbrev main_v191 : Ref sig .tc := ⟨.hbm, 402, rfl⟩
abbrev main_v192 : Ref sig .tc := ⟨.hbm, 403, rfl⟩
abbrev main_cst_41 : Ref sig .tc := ⟨.hbm, 404, rfl⟩
abbrev main_v193 : Ref sig .tc := ⟨.hbm, 405, rfl⟩
abbrev main_v194 : Ref sig .tc := ⟨.hbm, 406, rfl⟩
abbrev main_v195 : Ref sig .tc := ⟨.hbm, 407, rfl⟩
abbrev main_v196 : Ref sig .tc := ⟨.hbm, 408, rfl⟩
abbrev main_cst_42 : Ref sig .tc := ⟨.hbm, 409, rfl⟩
abbrev main_call14_v0 : Ref sig .tc := ⟨.hbm, 410, rfl⟩
abbrev main_call14_v1 : Ref sig .tc := ⟨.hbm, 411, rfl⟩
abbrev main_v197 : Ref sig .tc := ⟨.hbm, 412, rfl⟩
abbrev main_cst_43 : Ref sig .tc := ⟨.hbm, 413, rfl⟩
abbrev main_v198 : Ref sig .tc := ⟨.hbm, 414, rfl⟩
abbrev main_v199 : Ref sig .tc := ⟨.hbm, 415, rfl⟩
abbrev main_v200 : Ref sig .tc := ⟨.hbm, 416, rfl⟩
abbrev main_v201 : Ref sig .tc := ⟨.hbm, 417, rfl⟩
abbrev main_v202 : Ref sig .tc := ⟨.hbm, 418, rfl⟩

abbrev nD : Nat := 1
abbrev τ : Topo := Topo.v7x

variable {F : FTy → Type} [FloatOps F]
-- ==== Proof.Spine.lean ====
/- The claims that say nothing of the values: each program ends with its arguments as they were and its
   semaphores at rest, and the two constants given a name are the numbers the rule says. -/
module

public import proofs.«01_k».proof.Defs
public import proofs.«01_k».proof.Proof.Gen.ReferenceIdeal.Run
public import proofs.«01_k».proof.Proof.Gen.Kernel.Frame
public import proofs.«01_k».proof.Proof.Gen.KernelIdeal.Frame
public import Idealize.ShloMosaic.Lib.Quiescent

@[expose] public section

namespace Cert.Flow

open Idealize.ShloMosaic Idealize.SL.Sem

/-- The kernel as it is printed leaves its arguments alone and ends at rest. -/
theorem kernel_frame : Cert.quiescent_Kernel (hKernel := Cert.Kernel.Gen.facts) :=
  fun m ρ _ => Cert.Kernel.Gen.frame m ρ

/-- So does the kernel with its two constants named. -/
theorem ideal_frame : Cert.quiescent_KernelIdeal (hKernelIdeal := Cert.KernelIdeal.Gen.facts) :=
  fun m ρ _ => Cert.KernelIdeal.Gen.frame m ρ

/-- So it does under the precondition. -/
theorem ideal_frame_finite (hp : Cert.Pre_finite.Facts) :
    Cert.quiescent_KernelIdeal_pre_finite (hKernelIdeal := Cert.KernelIdeal.Gen.facts) (hPre_finite := hp) :=
  fun m ρ _ => Cert.KernelIdeal.Gen.frame m ρ

/-- So does the reference. -/
theorem reference_frame : Cert.quiescent_ReferenceIdeal (hReferenceIdeal := Cert.ReferenceIdeal.Gen.facts) :=
  fun m ρ _ =>
    (θ_run _ _ _).mono
      (fun r h => ⟨fun c => (h c).2.2, Idealize.ShloMosaic.sem_eq_zero_of_no_sems (by decide) r.2⟩)
      (Cert.ReferenceIdeal.Value.run (F := Ideal) m ρ)

/-- So it does under the precondition. -/
theorem reference_frame_finite (hp : Cert.Pre_finite.Facts) :
    Cert.quiescent_ReferenceIdeal_pre_finite (hReferenceIdeal := Cert.ReferenceIdeal.Gen.facts) (hPre_finite := hp) :=
  fun m ρ _ => reference_frame m ρ trivial

/-- Naming the two constants keeps the kernel: each name is bound to a number, and the rule asks no more. -/
theorem names_keep : Cert.preserves_Kernel_KernelIdeal :=
  ⟨IdealRules.named_const.statement _ _ _ _ _ rfl, IdealRules.named_const.statement _ _ _ _ _ rfl⟩

end Cert.Flow
-- ==== Proof.Reals.lean ====
/- What the extended reals do on real numbers, and the constants of the two programs. -/
module

public import Idealize.ShloMosaic.PureOps
public import Idealize.ShloMosaic.PureOps.Ideal
public import Mathlib.Data.EReal.Operations
public import Mathlib.Data.EReal.Inv
public import Mathlib.Analysis.SpecialFunctions.Log.Basic

@[expose] public section

namespace Cert.Flow

open Idealize.ShloMosaic

/-- A quotient of reals is a real when the divisor is not zero. -/
theorem ediv {y : ℝ} (h : y ≠ 0) (x : ℝ) : Ideal.div (x : EReal) (y : EReal) = ((x / y : ℝ) : EReal) := by
  rw [Ideal.div_coe h, ← EReal.coe_mul]
  congr 1
  ring

/-- The logarithm of a positive real is a real. -/
theorem elog {r : ℝ} (h : 0 < r) : Ideal.log (r : EReal) = ((Real.log r : ℝ) : EReal) := by
  rw [Ideal.log_coe, if_neg (not_le.mpr h)]

/-- The reciprocal square root of a positive real is a real. -/
theorem ersqrt {r : ℝ} (h : 0 < r) : Ideal.rsqrt (r : EReal) = (((Real.sqrt r)⁻¹ : ℝ) : EReal) := by
  rw [Ideal.rsqrt_coe, if_neg (not_lt.mpr h.le), if_neg h.ne']

/-- The larger of two reals. -/
theorem emax (x y : ℝ) : max (x : EReal) (y : EReal) = ((max x y : ℝ) : EReal) :=
  (EReal.coe_strictMono.monotone.map_max).symm

/-- The smaller of two reals. -/
theorem emin (x y : ℝ) : min (x : EReal) (y : EReal) = ((min x y : ℝ) : EReal) :=
  (EReal.coe_strictMono.monotone.map_min).symm

/-- The absolute value, the larger of a number and its negation. -/
theorem eabs (x : ℝ) : max (x : EReal) (-(x : EReal)) = ((|x| : ℝ) : EReal) := by
  rw [← EReal.coe_neg, emax]
  rfl

/-- A finite sum of reals. -/
theorem esum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- An extended real that is neither infinity is its real part. -/
theorem lift_real {x : EReal} (h : max x (-x) < ⊤) : ((x.toReal : ℝ) : EReal) = x := by
  refine EReal.coe_toReal (fun e => ?_) (fun e => ?_) <;> subst e <;> simp at h

/-- The small number added to the variance. -/
noncomputable def eps : ℝ := 8796093 / 8796093022208

/-- The least slope at an edge. -/
noncomputable def least : ℝ := 8589935 / 8589934592

theorem eps_pos : 0 < eps := by unfold eps; norm_num

theorem least_pos : 0 < least := by unfold least; norm_num

theorem word_eps : Ideal.ofBits .f32 0x358637BD#32 = (eps : EReal) := by
  unfold eps
  simp [Ideal.ofBits, Ideal.ieee, -EReal.coe_mul]
  norm_num

theorem word_least : Ideal.ofBits .f32 0x3A83126F#32 = (least : EReal) := by
  unfold least
  simp [Ideal.ofBits, Ideal.ieee, -EReal.coe_mul]
  norm_num

theorem word_inv128 : Ideal.ofBits .f32 0x3C000000#32 = ((1 / 128 : ℝ) : EReal) := by
  simp [Ideal.ofBits, Ideal.ieee, -EReal.coe_mul]
  norm_num

theorem word_128 : Ideal.ofBits .f32 0x43000000#32 = ((128 : ℝ) : EReal) := by
  simp [Ideal.ofBits, Ideal.ieee, -EReal.coe_mul]
  norm_num

theorem word_1000 : Ideal.ofBits .f32 0x447A0000#32 = ((1000 : ℝ) : EReal) := by
  simp [Ideal.ofBits, Ideal.ieee, -EReal.coe_mul]
  norm_num

theorem word_8 : Ideal.ofBits .f32 0x41000000#32 = ((8 : ℝ) : EReal) := by
  simp [Ideal.ofBits, Ideal.ieee, -EReal.coe_mul]
  norm_num

theorem word_6 : Ideal.ofBits .f32 0x40C00000#32 = ((6 : ℝ) : EReal) := by
  simp [Ideal.ofBits, Ideal.ieee, -EReal.coe_mul]
  norm_num

theorem word_3 : Ideal.ofBits .f32 0x40400000#32 = ((3 : ℝ) : EReal) := by
  simp [Ideal.ofBits, Ideal.ieee, -EReal.coe_mul]
  norm_num

theorem word_neg3 : Ideal.ofBits .f32 0xC0400000#32 = ((-3 : ℝ) : EReal) := by
  simp [Ideal.ofBits, Ideal.ieee, -EReal.coe_mul]
  norm_num

theorem word_2 : Ideal.ofBits .f32 0x40000000#32 = ((2 : ℝ) : EReal) := by
  simp [Ideal.ofBits, Ideal.ieee, -EReal.coe_mul]
  norm_num

theorem word_1 : Ideal.ofBits .f32 0x3F800000#32 = ((1 : ℝ) : EReal) := by
  simp [Ideal.ofBits, Ideal.ieee, -EReal.coe_mul]
  norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

end Cert.Flow
-- ==== Proof.Model.lean ====
/- The flow step in real numbers: the small network that makes the raw parameters of a sample, the monotone
   rational quadratic spline that they give, and what is needed of it — every bin has a positive width and
   height, the bins fill [−3, 3], and so the spline's denominator and the derivative's numerator are positive. -/
module

public import proofs.«01_k».proof.Proof.Reals

@[expose] public section

noncomputable section

namespace Cert.Flow

/-! ## The network -/

/-- The weights. -/
structure Weights where
  W0 : Fin 32 → Fin 128 → ℝ
  b0 : Fin 128 → ℝ
  g0 : Fin 128 → ℝ
  be0 : Fin 128 → ℝ
  W1 : Fin 128 → Fin 128 → ℝ
  b1 : Fin 128 → ℝ
  g1 : Fin 128 → ℝ
  be1 : Fin 128 → ℝ
  Wp : Fin 128 → Fin 800 → ℝ
  bp : Fin 800 → ℝ

/-- The mean of 128 numbers. -/
def mean (p : Fin 128 → ℝ) : ℝ := (∑ k, p k) / 128

/-- Their variance. -/
def var (p : Fin 128 → ℝ) : ℝ := (∑ k, (p k - mean p) * (p k - mean p)) / 128

/-- A layer norm with a scale and a shift, and then the positive part. -/
def norm (g be p : Fin 128 → ℝ) (j : Fin 128) : ℝ :=
  max ((p j - mean p) * (Real.sqrt (var p + eps))⁻¹ * g j + be j) 0

variable (P : Weights) (x : Fin 32 → ℝ)

/-- The first linear layer. -/
def lin0 (j : Fin 128) : ℝ := ∑ k, x k * P.W0 k j + P.b0 j

/-- The first hidden layer. -/
def hid (j : Fin 128) : ℝ := norm P.g0 P.be0 (lin0 P x) j

/-- The second linear layer. -/
def lin1 (j : Fin 128) : ℝ := ∑ k, hid P x k * P.W1 k j + P.b1 j

/-- The features: the second hidden layer added to the first. -/
def feat (j : Fin 128) : ℝ := norm P.g1 P.be1 (lin1 P x) j + hid P x j

/-- The raw parameters of a sample. -/
def raw (n : Fin 800) : ℝ := ∑ k, feat P x k * P.Wp k n + P.bp n

theorem var_eps (p : Fin 128 → ℝ) : 0 < var p + eps := by
  have : 0 ≤ var p := by
    unfold var
    exact div_nonneg (Finset.sum_nonneg fun k _ => mul_self_nonneg _) (by norm_num)
  linarith [eps_pos]

/-- Parameter `q` of dimension `u` among the raw parameters of a sample, 25 to a dimension. -/
def rawAt (u : Fin 32) (q : ℕ) : ℝ := if h : 25 * u.1 + q < 800 then raw P x ⟨25 * u.1 + q, h⟩ else 0

theorem rawAt_eq (u : Fin 32) (q : ℕ) (h : 25 * u.1 + q < 800) : rawAt P x u q = raw P x ⟨25 * u.1 + q, h⟩ :=
  dif_pos h

/-! ## The spline -/

/-- The sum of the eight exponentials. -/
def expSum (a : ℕ → ℝ) : ℝ := ∑ k ∈ Finset.range 8, Real.exp (a k)

/-- The size of bin `k`: a softmax spread over what the eight least sizes leave of 6. -/
def size (a : ℕ → ℝ) (k : ℕ) : ℝ := Real.exp (a k) * (744 / 125 / expSum a) + 3 / 500

/-- The edges, from −3 on. -/
def edge (a : ℕ → ℝ) : ℕ → ℝ
  | 0 => -3
  | k + 1 => edge a k + size a k

/-- A number brought into [−3, 3]. -/
def clamp (x : ℝ) : ℝ := min (max x (-3)) 3

/-- The bin of a number, by its inner edges. -/
def bin (e : ℕ → ℝ) (x : ℝ) : ℕ :=
  if e 7 ≤ x then 7 else if e 6 ≤ x then 6 else if e 5 ≤ x then 5 else if e 4 ≤ x then 4
  else if e 3 ≤ x then 3 else if e 2 ≤ x then 2 else if e 1 ≤ x then 1 else 0

/-- The slope at an edge: a softplus over the least slope. -/
def slope (v : ℝ) : ℝ := max v 0 + Real.log (1 + Real.exp (-|v|)) + least

/-- What a bin's spline is made of: its sizes, its corner, the slopes at its ends. -/
structure Piece where
  W : ℝ
  H : ℝ
  X : ℝ
  Y : ℝ
  d0 : ℝ
  d1 : ℝ

namespace Piece

variable (p : Piece) (x : ℝ)

def s : ℝ := p.H / p.W
def θ : ℝ := (x - p.X) / p.W
def t : ℝ := p.θ x * (1 - p.θ x)
def den : ℝ := p.s + (p.d1 + p.d0 - 2 * p.s) * p.t x
def numer : ℝ := p.d1 * (p.θ x * p.θ x) + 2 * p.s * p.t x + p.d0 * (1 - p.θ x) * (1 - p.θ x)
def y : ℝ := p.Y + p.H * (p.s * (p.θ x * p.θ x) + p.d0 * p.t x) / p.den x
def ld : ℝ := 2 * Real.log p.s + Real.log (p.numer x) - 2 * Real.log (p.den x)

/-- A piece that is well made, with the number inside it. -/
structure Good : Prop where
  W : 0 < p.W
  H : 0 < p.H
  d0 : 0 < p.d0
  d1 : 0 < p.d1
  lo : p.X ≤ x
  hi : x ≤ p.X + p.W

variable {p x}

theorem Good.s_pos (h : p.Good x) : 0 < p.s := div_pos h.H h.W

theorem Good.θ_nonneg (h : p.Good x) : 0 ≤ p.θ x := div_nonneg (sub_nonneg.mpr h.lo) h.W.le

theorem Good.θ_le (h : p.Good x) : p.θ x ≤ 1 := by
  unfold θ
  rw [div_le_one h.W]
  linarith [h.hi]

theorem Good.den_pos (h : p.Good x) : 0 < p.den x := by
  have hs := h.s_pos
  have h0 := h.θ_nonneg
  have h1 := h.θ_le
  have e : p.den x = p.s * (p.θ x ^ 2 + (1 - p.θ x) ^ 2) + (p.d1 + p.d0) * (p.θ x * (1 - p.θ x)) := by
    unfold den t
    ring
  have q : 0 < p.θ x ^ 2 + (1 - p.θ x) ^ 2 := by nlinarith [sq_nonneg (p.θ x), sq_nonneg (1 - p.θ x), sq_nonneg (2 * p.θ x - 1)]
  rw [e]
  exact add_pos_of_pos_of_nonneg (mul_pos hs q)
    (mul_nonneg (add_pos h.d1 h.d0).le (mul_nonneg h0 (by linarith)))

theorem Good.numer_pos (h : p.Good x) : 0 < p.numer x := by
  have hs := h.s_pos
  have h0 := h.θ_nonneg
  have h1 := h.θ_le
  have ht : 0 ≤ p.t x := mul_nonneg h0 (by linarith)
  have a : 0 ≤ p.d1 * (p.θ x * p.θ x) := mul_nonneg h.d1.le (mul_self_nonneg _)
  have b : 0 ≤ 2 * p.s * p.t x := mul_nonneg (by linarith) ht
  have c : 0 ≤ p.d0 * (1 - p.θ x) * (1 - p.θ x) := by
    rw [mul_assoc]
    exact mul_nonneg h.d0.le (mul_self_nonneg _)
  unfold numer
  rcases eq_or_lt_of_le h1 with e | e
  · have : 0 < p.d1 * (p.θ x * p.θ x) := by rw [e]; linarith [h.d1]
    linarith
  · have : 0 < p.d0 * (1 - p.θ x) * (1 - p.θ x) := by
      rw [mul_assoc]
      exact mul_pos h.d0 (mul_pos (by linarith) (by linarith))
    linarith

/-- The logarithm of the derivative, of one product. -/
theorem Good.ld_eq (h : p.Good x) :
    p.ld x = Real.log (p.s * p.s * p.numer x * (1 / p.den x * (1 / p.den x))) := by
  have hs := h.s_pos.ne'
  have hn := h.numer_pos.ne'
  have hd := h.den_pos.ne'
  have hr : (1 / p.den x) ≠ 0 := one_div_ne_zero hd
  rw [Real.log_mul (mul_ne_zero (mul_ne_zero hs hs) hn) (mul_ne_zero hr hr), Real.log_mul (mul_ne_zero hs hs) hn,
    Real.log_mul hs hs, Real.log_mul hr hr, one_div, Real.log_inv]
  unfold ld
  ring

theorem Good.arg_pos (h : p.Good x) : 0 < p.s * p.s * p.numer x * (1 / p.den x * (1 / p.den x)) := by
  have hr : 0 < 1 / p.den x := one_div_pos.mpr h.den_pos
  exact mul_pos (mul_pos (mul_pos h.s_pos h.s_pos) h.numer_pos) (mul_pos hr hr)

end Piece

theorem expSum_pos (a : ℕ → ℝ) : 0 < expSum a :=
  Finset.sum_pos (fun _ _ => Real.exp_pos _) (by simp)

theorem size_pos (a : ℕ → ℝ) (k : ℕ) : 0 < size a k := by
  unfold size
  have : 0 < Real.exp (a k) * (744 / 125 / expSum a) :=
    mul_pos (Real.exp_pos _) (div_pos (by norm_num) (expSum_pos a))
  linarith

theorem slope_pos (v : ℝ) : 0 < slope v := by
  unfold slope
  have h1 : 0 ≤ max v 0 := le_max_right _ _
  have h2 : 0 ≤ Real.log (1 + Real.exp (-|v|)) := Real.log_nonneg (by linarith [Real.exp_pos (-|v|)])
  linarith [least_pos]

/-- An edge is −3 and the sizes before it. -/
theorem edge_eq (a : ℕ → ℝ) (k : ℕ) : edge a k = -3 + ∑ i ∈ Finset.range k, size a i := by
  induction k with
  | zero => simp [edge]
  | succ k ih => rw [edge, ih, Finset.sum_range_succ]; ring

/-- The eight sizes add up to 6: the last edge is 3. -/
theorem edge_last (a : ℕ → ℝ) : edge a 8 = 3 := by
  rw [edge_eq]
  have h := (expSum_pos a).ne'
  have : ∑ i ∈ Finset.range 8, size a i = expSum a * (744 / 125 / expSum a) + 8 * (3 / 500) := by
    unfold size
    rw [Finset.sum_add_distrib, ← Finset.sum_mul, Finset.sum_const, Finset.card_range]
    simp [expSum]
  rw [this]
  field_simp
  norm_num

theorem edge_lt (a : ℕ → ℝ) (k : ℕ) : edge a k < edge a (k + 1) := by
  rw [edge]
  linarith [size_pos a k]

theorem clamp_lo (x : ℝ) : -3 ≤ clamp x := le_min (le_max_right _ _) (by norm_num)

theorem clamp_hi (x : ℝ) : clamp x ≤ 3 := min_le_right _ _

theorem bin_le (e : ℕ → ℝ) (x : ℝ) : bin e x ≤ 7 := by
  unfold bin
  split_ifs <;> norm_num

/-- A number of [−3, 3] is in its bin. -/
theorem bin_spec (a : ℕ → ℝ) (x : ℝ) :
    edge a (bin (edge a) (clamp x)) ≤ clamp x ∧ clamp x ≤ edge a (bin (edge a) (clamp x) + 1) := by
  have h0 : edge a 0 ≤ clamp x := clamp_lo x
  have h8 : clamp x ≤ edge a 8 := by rw [edge_last]; exact clamp_hi x
  generalize clamp x = c at *
  unfold bin
  split_ifs <;> constructor <;> first | assumption | exact (not_le.mp (by assumption)).le

variable (w h d : ℕ → ℝ) (v : ℝ)

/-- The piece of the spline that a number falls in. -/
def piece : Piece where
  W := size w (bin (edge w) (clamp v))
  H := size h (bin (edge w) (clamp v))
  X := edge w (bin (edge w) (clamp v))
  Y := edge h (bin (edge w) (clamp v))
  d0 := slope (d (bin (edge w) (clamp v)))
  d1 := slope (d (bin (edge w) (clamp v) + 1))

theorem piece_good : (piece w h d v).Good (clamp v) where
  W := size_pos _ _
  H := size_pos _ _
  d0 := slope_pos _
  d1 := slope_pos _
  lo := (bin_spec w v).1
  hi := (bin_spec w v).2

/-- The value of the spline: the identity outside (−3, 3). -/
def splineY : ℝ := if -3 < v ∧ v < 3 then (piece w h d v).y (clamp v) else v

/-- The logarithm of its derivative: zero outside. -/
def splineLd : ℝ := if -3 < v ∧ v < 3 then (piece w h d v).ld (clamp v) else 0

end Cert.Flow

end
-- ==== Proof.KNet.lean ====
/- The network of the kernel at one column of a block: from what the blocks hold to the raw parameters. -/
module

public import proofs.«01_k».proof.Proof.Gen.KernelIdeal.Skeleton
public import proofs.«01_k».proof.Proof.Model
public import Idealize.ShloMosaic.Lib.Pointwise

@[expose] public section

set_option maxRecDepth 16384

noncomputable section

namespace Cert.Flow

open Idealize.ShloMosaic Cert.KernelIdeal Cert.KernelIdeal.Gen

/-- A layer norm as the kernel spells it, on reals. -/
theorem knorm (p g be : Fin 128 → ℝ) (j : Fin 128) :
    max (((p j : EReal) - ∑ x, ((1 / 128 : ℝ) : EReal) * (p x : EReal))
        * Ideal.rsqrt (∑ x, ((1 / 128 : ℝ) : EReal)
            * (((p x : EReal) - ∑ x, ((1 / 128 : ℝ) : EReal) * (p x : EReal))
              * ((p x : EReal) - ∑ x, ((1 / 128 : ℝ) : EReal) * (p x : EReal))) + (eps : EReal))
        * (g j : EReal) + (be j : EReal)) 0 = ((norm g be p j : ℝ) : EReal) := by
  have m : ∑ x, ((1 / 128 : ℝ) : EReal) * (p x : EReal) = ((mean p : ℝ) : EReal) := by
    simp only [← EReal.coe_mul, esum]
    rw [← Finset.mul_sum, mean, one_div_mul_eq_div]
  have v : ∑ x, ((1 / 128 : ℝ) : EReal) * (((p x - mean p) * (p x - mean p) : ℝ) : EReal) = ((var p : ℝ) : EReal) := by
    simp only [← EReal.coe_mul, esum]
    rw [← Finset.mul_sum, var, one_div_mul_eq_div]
  rw [m]
  simp only [← EReal.coe_sub, ← EReal.coe_mul]
  simp only [← EReal.coe_mul] at v
  rw [v, ← EReal.coe_add, ersqrt (var_eps p), ← EReal.coe_mul, ← EReal.coe_mul, ← EReal.coe_add, ← EReal.coe_zero, emax]
  rfl

/-- The dimension that row `i` of the permuted sample is: the even ones first, and then the odd ones. -/
def pick (i : Fin 64) : Fin 64 :=
  if h : i.1 < 32 then ⟨2 * i.1, by omega⟩ else ⟨2 * (i.1 - 32) + 1, by omega⟩

theorem pick_even (u : Fin 32) (h : u.1 < 64) : pick ⟨u.1, h⟩ = ⟨2 * u.1, by omega⟩ := by
  simp [pick]

theorem pick_odd (u : Fin 32) (h : 32 + u.1 < 64) : pick ⟨32 + u.1, h⟩ = ⟨2 * u.1 + 1, by omega⟩ := by
  simp [pick]

/-- What the blocks hold at column `l`, in reals: the sample, the permutation, the weights with their biases. -/
structure Column (P : Weights) (s : Fin 64 → ℝ) (l : Fin 4096) (v0 : Vec Ideal S64x4096 .f32) (v2 : Vec Ideal S64x64 .f32)
    (v7 : Vec Ideal S128x33 .f32) (v11 v13 : Vec Ideal S128x1 .f32) (v32 : Vec Ideal S128x129 .f32)
    (v36 v38 : Vec Ideal S128x1 .f32) (v58 : Vec Ideal S800x129 .f32) : Prop where
  sample : ∀ j : Fin 64, v0 (ix2 j l) = (s j : EReal)
  perm : ∀ i j : Fin 64, v2 (ix2 i j) = if j = pick i then (1 : EReal) else 0
  w0 : ∀ (j : Fin 128) (k : Fin 32), v7 (ix2 j ⟨k.1, by omega⟩) = (P.W0 k j : EReal)
  b0 : ∀ j : Fin 128, v7 (ix2 j 32) = (P.b0 j : EReal)
  g0 : ∀ j : Fin 128, v11 (ix2 j 0) = (P.g0 j : EReal)
  be0 : ∀ j : Fin 128, v13 (ix2 j 0) = (P.be0 j : EReal)
  w1 : ∀ j k : Fin 128, v32 (ix2 j ⟨k.1, by omega⟩) = (P.W1 k j : EReal)
  b1 : ∀ j : Fin 128, v32 (ix2 j 128) = (P.b1 j : EReal)
  g1 : ∀ j : Fin 128, v36 (ix2 j 0) = (P.g1 j : EReal)
  be1 : ∀ j : Fin 128, v38 (ix2 j 0) = (P.be1 j : EReal)
  wp : ∀ (u : Fin 32) (q : ℕ) (hq : q < 25) (k : Fin 128),
    v58 (ix2 ⟨32 * q + u.1, by omega⟩ ⟨k.1, by omega⟩) = (P.Wp k ⟨25 * u.1 + q, by omega⟩ : EReal)
  bp : ∀ (u : Fin 32) (q : ℕ) (hq : q < 25),
    v58 (ix2 ⟨32 * q + u.1, by omega⟩ 128) = (P.bp ⟨25 * u.1 + q, by omega⟩ : EReal)

/-- The even half of a sample, which is passed on as it is, and the odd one, which the spline moves. -/
def evens (s : Fin 64 → ℝ) (u : Fin 32) : ℝ := s ⟨2 * u.1, by omega⟩

def odds (s : Fin 64 → ℝ) (u : Fin 32) : ℝ := s ⟨2 * u.1 + 1, by omega⟩

section

variable {P : Weights} {s : Fin 64 → ℝ} {l : Fin 4096} {v0 : Vec Ideal S64x4096 .f32} {v2 : Vec Ideal S64x64 .f32}
  {v7 : Vec Ideal S128x33 .f32} {v11 v13 : Vec Ideal S128x1 .f32} {v32 : Vec Ideal S128x129 .f32}
  {v36 v38 : Vec Ideal S128x1 .f32} {v58 : Vec Ideal S800x129 .f32}

/-- A sum against one row of the permutation is the one entry that the row picks. -/
theorem pick_sum (c : Fin 64) (f : Fin 64 → ℝ) :
    ∑ x : Fin 64, (if x = c then (1 : EReal) else 0) * (f x : EReal) = (f c : EReal) := by
  rw [Finset.sum_eq_single c (fun b _ h => by rw [if_neg h, zero_mul]) (fun h => absurd (Finset.mem_univ _) h),
    if_pos rfl, one_mul]

variable (H : Column P s l v0 v2 v7 v11 v13 v32 v36 v38 v58)
include H

theorem kx (u : Fin 32) : k0_pay5 (F := Ideal) v0 v2 (ix2 u l) = (evens s u : EReal) := by
  pointwise [k0_pay5, k0_pay4]
  simp only [H.perm, H.sample, pick_even]
  exact pick_sum _ s

theorem kxu (u : Fin 32) : k0_pay6 (F := Ideal) v0 v2 (ix2 u l) = (odds s u : EReal) := by
  pointwise [k0_pay6, k0_pay4]
  simp only [H.perm, H.sample, pick_odd]
  exact pick_sum _ s

theorem khid (j : Fin 128) :
    k0_pay8 (F := Ideal) v0 v2 v7 v11 v13 (ix2 j l) = (hid P (evens s) j : EReal) := by
  have e : ∀ j : Fin 128, (∑ x : Fin 32, v7 (ix2 j ⟨x.1, by omega⟩) * k0_pay5 (F := Ideal) v0 v2 (ix2 x l)
      + ∑ x : Fin 1, v7 (ix2 j 32) * k0_pay7 (F := Ideal) (ix2 0 l) : EReal) = ((lin0 P (evens s) j : ℝ) : EReal) := by
    intro j
    pointwise [k0_pay7]
    simp only [H.w0, H.b0, kx H, ← EReal.coe_mul, esum, mul_one, Finset.univ_unique, Finset.sum_singleton, ← EReal.coe_add]
    simp only [lin0, mul_comm]
  pointwise [k0_pay8]
  simp only [e, H.g0, H.be0, word_inv128, word_eps]
  exact knorm _ _ _ _

theorem klin1 (j : Fin 128) :
    k0_pay9 (F := Ideal) v0 v2 v7 v11 v13 v32 (ix2 j l) = (lin1 P (evens s) j : EReal) := by
  pointwise [k0_pay9, k0_pay7]
  simp only [H.w1, H.b1, khid H, ← EReal.coe_mul, esum, mul_one, Finset.univ_unique, Finset.sum_singleton, ← EReal.coe_add]
  simp only [lin1, mul_comm]

/-- The raw parameters: parameter `q` of dimension `u` is row `32·q + u`. -/
theorem kraw (u : Fin 32) (q : ℕ) (hq : q < 25) :
    k0_pay10 (F := Ideal) (k0_pay7 (F := Ideal)) (k0_pay8 (F := Ideal) v0 v2 v7 v11 v13)
      (k0_pay9 (F := Ideal) v0 v2 v7 v11 v13 v32) v36 v38 v58 (ix2 ⟨32 * q + u.1, by omega⟩ l)
      = (rawAt P (evens s) u q : EReal) := by
  rw [rawAt_eq _ _ _ _ (by omega)]
  pointwise [k0_pay10, k0_pay7]
  simp only [klin1 H, khid H, H.g1, H.be1, word_inv128, word_eps, H.wp u q hq, H.bp u q hq]
  simp only [knorm]
  simp only [← EReal.coe_add, ← EReal.coe_mul, esum, mul_one, Finset.univ_unique, Finset.sum_singleton]
  simp only [raw, feat, mul_comm]

end

end Cert.Flow

end
-- ==== Proof.KSpline.lean ====
/- The spline of the kernel, read at one place of a block. First each value the body computes, from real operands;
   then the chain of them, from the raw parameters to the two results. -/
module

public import proofs.«01_k».proof.Proof.Gen.KernelIdeal.Frame
public import proofs.«01_k».proof.Proof.KNet
public import Idealize.ShloMosaic.Lib.Pointwise
public import Idealize.ShloMosaic.Lib.Claim

@[expose] public section

set_option maxRecDepth 16384

noncomputable section

namespace Cert.Flow

open Idealize.ShloMosaic Cert.KernelIdeal Cert.KernelIdeal.Gen

/-- The number that the scale of the softmax is named. -/
theorem scale_val :
    Named.named (F := Ideal) Cert.KernelIdeal.κ "bin_scale" (φ := .f32) 0x40BE76C9#32 = ((744 / 125 : ℝ) : EReal) :=
  IdealRules.named_const.ideal_named_scalar _ _ _ _ rfl

/-- The number that the least size of a bin is named. -/
theorem offset_val :
    Named.named (F := Ideal) Cert.KernelIdeal.κ "bin_offset" (φ := .f32) 0x3BC49BA6#32 = ((3 / 500 : ℝ) : EReal) :=
  IdealRules.named_const.ideal_named_scalar _ _ _ _ rfl

/-- The size of a bin, of the sum of the exponentials as the kernel spells it. -/
theorem ksize (a : ℕ → ℝ) (k : ℕ) :
    ((Real.exp (a k) : ℝ) : EReal) * Ideal.div ((744 / 125 : ℝ) : EReal)
      (((Real.exp (a 0) : ℝ) : EReal) + ((Real.exp (a 1) : ℝ) : EReal) + ((Real.exp (a 2) : ℝ) : EReal)
        + ((Real.exp (a 3) : ℝ) : EReal) + ((Real.exp (a 4) : ℝ) : EReal) + ((Real.exp (a 5) : ℝ) : EReal)
        + ((Real.exp (a 6) : ℝ) : EReal) + ((Real.exp (a 7) : ℝ) : EReal))
      + ((3 / 500 : ℝ) : EReal) = ((size a k : ℝ) : EReal) := by
  have e : Real.exp (a 0) + Real.exp (a 1) + Real.exp (a 2) + Real.exp (a 3) + Real.exp (a 4) + Real.exp (a 5)
      + Real.exp (a 6) + Real.exp (a 7) = expSum a := by
    simp [expSum, Finset.sum_range_succ]
  simp only [← EReal.coe_add]
  rw [e, ediv (expSum_pos a).ne', ← EReal.coe_mul, ← EReal.coe_add]
  rfl

section

variable {u : Fin 32} {l : Fin 4096}

/-! ## Each value, from real operands -/

section

variable {v0 v1 v2 v3 v4 v5 v6 v7 : FVec Ideal S32x4096 .f32} {a : ℕ → ℝ}

theorem kwidth0 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay45 v0 v1 v2 v3 v4 v5 v6 v7 (ix2 u l) = ((size a 0 : ℝ) : EReal) := by
  pointwise [k0_pay45, k0_pay44, k0_pay43, k0_pay42, k0_pay41, k0_pay40, k0_pay39, k0_pay38, k0_pay37, k0_pay36]
  rw [h0, h1, h2, h3, h4, h5, h6, h7, scale_val, offset_val]
  exact ksize a 0

theorem kwidth1 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay46 v0 v1 v2 v3 v4 v5 v6 v7 (ix2 u l) = ((size a 1 : ℝ) : EReal) := by
  pointwise [k0_pay46, k0_pay44, k0_pay43, k0_pay42, k0_pay41, k0_pay40, k0_pay39, k0_pay38, k0_pay37, k0_pay36]
  rw [h0, h1, h2, h3, h4, h5, h6, h7, scale_val, offset_val]
  exact ksize a 1

theorem kwidth2 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay47 v0 v1 v2 v3 v4 v5 v6 v7 (ix2 u l) = ((size a 2 : ℝ) : EReal) := by
  pointwise [k0_pay47, k0_pay44, k0_pay43, k0_pay42, k0_pay41, k0_pay40, k0_pay39, k0_pay38, k0_pay37, k0_pay36]
  rw [h0, h1, h2, h3, h4, h5, h6, h7, scale_val, offset_val]
  exact ksize a 2

theorem kwidth3 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay48 v0 v1 v2 v3 v4 v5 v6 v7 (ix2 u l) = ((size a 3 : ℝ) : EReal) := by
  pointwise [k0_pay48, k0_pay44, k0_pay43, k0_pay42, k0_pay41, k0_pay40, k0_pay39, k0_pay38, k0_pay37, k0_pay36]
  rw [h0, h1, h2, h3, h4, h5, h6, h7, scale_val, offset_val]
  exact ksize a 3

theorem kwidth4 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay49 v0 v1 v2 v3 v4 v5 v6 v7 (ix2 u l) = ((size a 4 : ℝ) : EReal) := by
  pointwise [k0_pay49, k0_pay44, k0_pay43, k0_pay42, k0_pay41, k0_pay40, k0_pay39, k0_pay38, k0_pay37, k0_pay36]
  rw [h0, h1, h2, h3, h4, h5, h6, h7, scale_val, offset_val]
  exact ksize a 4

theorem kwidth5 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay50 v0 v1 v2 v3 v4 v5 v6 v7 (ix2 u l) = ((size a 5 : ℝ) : EReal) := by
  pointwise [k0_pay50, k0_pay44, k0_pay43, k0_pay42, k0_pay41, k0_pay40, k0_pay39, k0_pay38, k0_pay37, k0_pay36]
  rw [h0, h1, h2, h3, h4, h5, h6, h7, scale_val, offset_val]
  exact ksize a 5

theorem kwidth6 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay51 v0 v1 v2 v3 v4 v5 v6 v7 (ix2 u l) = ((size a 6 : ℝ) : EReal) := by
  pointwise [k0_pay51, k0_pay44, k0_pay43, k0_pay42, k0_pay41, k0_pay40, k0_pay39, k0_pay38, k0_pay37, k0_pay36]
  rw [h0, h1, h2, h3, h4, h5, h6, h7, scale_val, offset_val]
  exact ksize a 6

theorem kwidth7 (h0 : v0 (ix2 u l) = (a 0 : EReal)) (h1 : v1 (ix2 u l) = (a 1 : EReal)) (h2 : v2 (ix2 u l) = (a 2 : EReal)) (h3 : v3 (ix2 u l) = (a 3 : EReal)) (h4 : v4 (ix2 u l) = (a 4 : EReal)) (h5 : v5 (ix2 u l) = (a 5 : EReal)) (h6 : v6 (ix2 u l) = (a 6 : EReal)) (h7 : v7 (ix2 u l) = (a 7 : EReal)) :
    k0_pay52 v0 v1 v2 v3 v4 v5 v6 v7 (ix2 u l) = ((size a 7 : ℝ) : EReal) := by
  pointwise [k0_pay52, k0_pay44, k0_pay43, k0_pay42, k0_pay41, k0_pay40, k0_pay39, k0_pay38, k0_pay37, k0_pay36]
  rw [h0, h1, h2, h3, h4, h5, h6, h7, scale_val, offset_val]
  exact ksize a 7

variable {v8 : FVec Ideal S32x4096 .f32}

theorem kheight0 (h0 : v0 (ix2 u l) = ((Real.exp (a 0) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay63 v0 v2 v3 v4 v5 v6 v7 v8 (ix2 u l) = ((size a 0 : ℝ) : EReal) := by
  pointwise [k0_pay63, k0_pay62]
  rw [h0, h2, h3, h4, h5, h6, h7, h8, scale_val, offset_val]
  exact ksize a 0

theorem kheight1 (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay64 v1 v2 v3 v4 v5 v6 v7 v8 (ix2 u l) = ((size a 1 : ℝ) : EReal) := by
  pointwise [k0_pay64, k0_pay62]
  rw [h1, h2, h3, h4, h5, h6, h7, h8, scale_val, offset_val]
  exact ksize a 1

theorem kheight2 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay65 v2 v3 v4 v5 v6 v7 v8 (ix2 u l) = ((size a 2 : ℝ) : EReal) := by
  pointwise [k0_pay65, k0_pay62]
  rw [h2, h3, h4, h5, h6, h7, h8, scale_val, offset_val]
  exact ksize a 2

theorem kheight3 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay66 v2 v3 v4 v5 v6 v7 v8 (ix2 u l) = ((size a 3 : ℝ) : EReal) := by
  pointwise [k0_pay66, k0_pay62]
  rw [h2, h3, h4, h5, h6, h7, h8, scale_val, offset_val]
  exact ksize a 3

theorem kheight4 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay67 v2 v3 v4 v5 v6 v7 v8 (ix2 u l) = ((size a 4 : ℝ) : EReal) := by
  pointwise [k0_pay67, k0_pay62]
  rw [h2, h3, h4, h5, h6, h7, h8, scale_val, offset_val]
  exact ksize a 4

theorem kheight5 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay68 v2 v3 v4 v5 v6 v7 v8 (ix2 u l) = ((size a 5 : ℝ) : EReal) := by
  pointwise [k0_pay68, k0_pay62]
  rw [h2, h3, h4, h5, h6, h7, h8, scale_val, offset_val]
  exact ksize a 5

theorem kheight6 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay69 v2 v3 v4 v5 v6 v7 v8 (ix2 u l) = ((size a 6 : ℝ) : EReal) := by
  pointwise [k0_pay69, k0_pay62]
  rw [h2, h3, h4, h5, h6, h7, h8, scale_val, offset_val]
  exact ksize a 6

theorem kheight7 (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay70 v2 v3 v4 v5 v6 v7 v8 (ix2 u l) = ((size a 7 : ℝ) : EReal) := by
  pointwise [k0_pay70, k0_pay62]
  rw [h2, h3, h4, h5, h6, h7, h8, scale_val, offset_val]
  exact ksize a 7

theorem kedge1 (h0 : v0 (ix2 u l) = ((size a 0 : ℝ) : EReal)) :
    k0_pay71 v0 (ix2 u l) = ((edge a 1 : ℝ) : EReal) := by
  pointwise [k0_pay71]
  rw [h0, word_3]
  simp only [← EReal.coe_sub, ← EReal.coe_add, edge, EReal.coe_eq_coe_iff]
  ring

theorem kedge2 (h0 : v0 (ix2 u l) = ((size a 0 : ℝ) : EReal)) (h1 : v1 (ix2 u l) = ((size a 1 : ℝ) : EReal)) :
    k0_pay73 v0 v1 (ix2 u l) = ((edge a 2 : ℝ) : EReal) := by
  pointwise [k0_pay71, k0_pay73]
  rw [h0, h1, word_3]
  simp only [← EReal.coe_sub, ← EReal.coe_add, edge, EReal.coe_eq_coe_iff]
  ring

theorem kedge3 (h0 : v0 (ix2 u l) = ((size a 0 : ℝ) : EReal)) (h1 : v1 (ix2 u l) = ((size a 1 : ℝ) : EReal)) (h2 : v2 (ix2 u l) = ((size a 2 : ℝ) : EReal)) :
    k0_pay75 v0 v1 v2 (ix2 u l) = ((edge a 3 : ℝ) : EReal) := by
  pointwise [k0_pay71, k0_pay73, k0_pay75]
  rw [h0, h1, h2, word_3]
  simp only [← EReal.coe_sub, ← EReal.coe_add, edge, EReal.coe_eq_coe_iff]
  ring

theorem kedge4 (h0 : v0 (ix2 u l) = ((size a 0 : ℝ) : EReal)) (h1 : v1 (ix2 u l) = ((size a 1 : ℝ) : EReal)) (h2 : v2 (ix2 u l) = ((size a 2 : ℝ) : EReal)) (h3 : v3 (ix2 u l) = ((size a 3 : ℝ) : EReal)) :
    k0_pay77 v0 v1 v2 v3 (ix2 u l) = ((edge a 4 : ℝ) : EReal) := by
  pointwise [k0_pay71, k0_pay73, k0_pay75, k0_pay77]
  rw [h0, h1, h2, h3, word_3]
  simp only [← EReal.coe_sub, ← EReal.coe_add, edge, EReal.coe_eq_coe_iff]
  ring

theorem kedge5 (h0 : v0 (ix2 u l) = ((size a 0 : ℝ) : EReal)) (h1 : v1 (ix2 u l) = ((size a 1 : ℝ) : EReal)) (h2 : v2 (ix2 u l) = ((size a 2 : ℝ) : EReal)) (h3 : v3 (ix2 u l) = ((size a 3 : ℝ) : EReal)) (h4 : v4 (ix2 u l) = ((size a 4 : ℝ) : EReal)) :
    k0_pay79 v0 v1 v2 v3 v4 (ix2 u l) = ((edge a 5 : ℝ) : EReal) := by
  pointwise [k0_pay71, k0_pay73, k0_pay75, k0_pay77, k0_pay79]
  rw [h0, h1, h2, h3, h4, word_3]
  simp only [← EReal.coe_sub, ← EReal.coe_add, edge, EReal.coe_eq_coe_iff]
  ring

theorem kedge6 (h0 : v0 (ix2 u l) = ((size a 0 : ℝ) : EReal)) (h1 : v1 (ix2 u l) = ((size a 1 : ℝ) : EReal)) (h2 : v2 (ix2 u l) = ((size a 2 : ℝ) : EReal)) (h3 : v3 (ix2 u l) = ((size a 3 : ℝ) : EReal)) (h4 : v4 (ix2 u l) = ((size a 4 : ℝ) : EReal)) (h5 : v5 (ix2 u l) = ((size a 5 : ℝ) : EReal)) :
    k0_pay81 v0 v1 v2 v3 v4 v5 (ix2 u l) = ((edge a 6 : ℝ) : EReal) := by
  pointwise [k0_pay71, k0_pay73, k0_pay75, k0_pay77, k0_pay79, k0_pay81]
  rw [h0, h1, h2, h3, h4, h5, word_3]
  simp only [← EReal.coe_sub, ← EReal.coe_add, edge, EReal.coe_eq_coe_iff]
  ring

theorem kedge7 (h0 : v0 (ix2 u l) = ((size a 0 : ℝ) : EReal)) (h1 : v1 (ix2 u l) = ((size a 1 : ℝ) : EReal)) (h2 : v2 (ix2 u l) = ((size a 2 : ℝ) : EReal)) (h3 : v3 (ix2 u l) = ((size a 3 : ℝ) : EReal)) (h4 : v4 (ix2 u l) = ((size a 4 : ℝ) : EReal)) (h5 : v5 (ix2 u l) = ((size a 5 : ℝ) : EReal)) (h6 : v6 (ix2 u l) = ((size a 6 : ℝ) : EReal)) :
    k0_pay83 v0 v1 v2 v3 v4 v5 v6 (ix2 u l) = ((edge a 7 : ℝ) : EReal) := by
  pointwise [k0_pay71, k0_pay73, k0_pay75, k0_pay77, k0_pay79, k0_pay81, k0_pay83]
  rw [h0, h1, h2, h3, h4, h5, h6, word_3]
  simp only [← EReal.coe_sub, ← EReal.coe_add, edge, EReal.coe_eq_coe_iff]
  ring

theorem kcorner1 (h0 : v0 (ix2 u l) = ((Real.exp (a 0) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay72 v0 v2 v3 v4 v5 v6 v7 v8 (ix2 u l) = ((edge a 1 : ℝ) : EReal) := by
  pointwise [k0_pay72]
  rw [kheight0 h0 h2 h3 h4 h5 h6 h7 h8, word_3]
  simp only [← EReal.coe_sub, ← EReal.coe_add, edge, EReal.coe_eq_coe_iff]
  try ring

theorem kcorner2 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay74 v0 v1 v2 v3 v4 v5 v6 v7 v8 (ix2 u l) = ((edge a 2 : ℝ) : EReal) := by
  pointwise [k0_pay74]
  rw [kcorner1 h0 h2 h3 h4 h5 h6 h7 h8, kheight1 h1 h2 h3 h4 h5 h6 h7 h8]
  simp only [← EReal.coe_sub, ← EReal.coe_add, edge, EReal.coe_eq_coe_iff]
  try ring

theorem kcorner3 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay76 v0 v1 v2 v3 v4 v5 v6 v7 v8 (ix2 u l) = ((edge a 3 : ℝ) : EReal) := by
  pointwise [k0_pay76]
  rw [kcorner2 h0 h1 h2 h3 h4 h5 h6 h7 h8, kheight2 h2 h3 h4 h5 h6 h7 h8]
  simp only [← EReal.coe_sub, ← EReal.coe_add, edge, EReal.coe_eq_coe_iff]
  try ring

theorem kcorner4 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay78 v0 v1 v2 v3 v4 v5 v6 v7 v8 (ix2 u l) = ((edge a 4 : ℝ) : EReal) := by
  pointwise [k0_pay78]
  rw [kcorner3 h0 h1 h2 h3 h4 h5 h6 h7 h8, kheight3 h2 h3 h4 h5 h6 h7 h8]
  simp only [← EReal.coe_sub, ← EReal.coe_add, edge, EReal.coe_eq_coe_iff]
  try ring

theorem kcorner5 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay80 v0 v1 v2 v3 v4 v5 v6 v7 v8 (ix2 u l) = ((edge a 5 : ℝ) : EReal) := by
  pointwise [k0_pay80]
  rw [kcorner4 h0 h1 h2 h3 h4 h5 h6 h7 h8, kheight4 h2 h3 h4 h5 h6 h7 h8]
  simp only [← EReal.coe_sub, ← EReal.coe_add, edge, EReal.coe_eq_coe_iff]
  try ring

theorem kcorner6 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay82 v0 v1 v2 v3 v4 v5 v6 v7 v8 (ix2 u l) = ((edge a 6 : ℝ) : EReal) := by
  pointwise [k0_pay82]
  rw [kcorner5 h0 h1 h2 h3 h4 h5 h6 h7 h8, kheight5 h2 h3 h4 h5 h6 h7 h8]
  simp only [← EReal.coe_sub, ← EReal.coe_add, edge, EReal.coe_eq_coe_iff]
  try ring

theorem kcorner7 (h0 : v0 (ix2 u l) = ((Real.exp (a 0) : ℝ) : EReal)) (h1 : v1 (ix2 u l) = ((Real.exp (a 1) : ℝ) : EReal)) (h2 : v2 (ix2 u l) = ((Real.exp (a 2) : ℝ) : EReal)) (h3 : v3 (ix2 u l) = ((Real.exp (a 3) : ℝ) : EReal)) (h4 : v4 (ix2 u l) = ((Real.exp (a 4) : ℝ) : EReal)) (h5 : v5 (ix2 u l) = ((Real.exp (a 5) : ℝ) : EReal)) (h6 : v6 (ix2 u l) = ((Real.exp (a 6) : ℝ) : EReal)) (h7 : v7 (ix2 u l) = ((Real.exp (a 7) : ℝ) : EReal)) (h8 : v8 (ix2 u l) = ((Real.exp (a 0) : ℝ) : EReal) + ((Real.exp (a 1) : ℝ) : EReal)) :
    k0_pay84 v0 v1 v2 v3 v4 v5 v6 v7 v8 (ix2 u l) = ((edge a 7 : ℝ) : EReal) := by
  pointwise [k0_pay84]
  rw [kcorner6 h0 h1 h2 h3 h4 h5 h6 h7 h8, kheight6 h2 h3 h4 h5 h6 h7 h8]
  simp only [← EReal.coe_sub, ← EReal.coe_add, edge, EReal.coe_eq_coe_iff]
  try ring

end

/-! ## The ladders: the value of the highest edge that the number reaches -/

section

variable {v5 e1 e2 e3 e4 e5 e6 e7 f0 f1 f2 f3 f4 f5 f6 f7 : FVec Ideal S32x4096 .f32} {e f : ℕ → ℝ} {x : ℝ}

theorem kclamp (hx : v5 (ix2 u l) = (x : EReal)) :
    k0_pay85 v5 (Scalar.ofBits .f32 0xC0400000#32) (ix2 u l) = ((clamp x : ℝ) : EReal) := by
  pointwise [k0_pay85]
  rw [hx, word_3, word_neg3, emax, emin]
  rfl

/-- Seven choices by seven edges are one value, that of the bin. -/
theorem kladder (e f : ℕ → ℝ) (x : ℝ) :
    (if e 7 ≤ x then (f 7 : EReal) else if e 6 ≤ x then (f 6 : EReal) else if e 5 ≤ x then (f 5 : EReal)
      else if e 4 ≤ x then (f 4 : EReal) else if e 3 ≤ x then (f 3 : EReal) else if e 2 ≤ x then (f 2 : EReal)
      else if e 1 ≤ x then (f 1 : EReal) else (f 0 : EReal)) = ((f (bin e x) : ℝ) : EReal) := by
  unfold bin
  split_ifs <;> rfl

theorem kselW (hx : v5 (ix2 u l) = (x : EReal)) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal))
    (hf0 : f0 (ix2 u l) = (f 0 : EReal)) (hf1 : f1 (ix2 u l) = (f 1 : EReal)) (hf2 : f2 (ix2 u l) = (f 2 : EReal)) (hf3 : f3 (ix2 u l) = (f 3 : EReal)) (hf4 : f4 (ix2 u l) = (f 4 : EReal)) (hf5 : f5 (ix2 u l) = (f 5 : EReal)) (hf6 : f6 (ix2 u l) = (f 6 : EReal)) (hf7 : f7 (ix2 u l) = (f 7 : EReal)) :
    k0_pay93 v5 f0 f1 f2 f3 f4 f5 f6 f7 e1 e2 e3 e4 e5 e6 e7 (Scalar.ofBits .f32 0xC0400000#32) (ix2 u l) = ((f (bin e (clamp x)) : ℝ) : EReal) := by
  pointwise [k0_pay93, k0_pay85, k0_pay86, k0_pay87, k0_pay88, k0_pay89, k0_pay90, k0_pay91, k0_pay92]
  simp only [hx, he1, he2, he3, he4, he5, he6, he7, hf0, hf1, hf2, hf3, hf4, hf5, hf6, hf7, word_3, word_neg3, emax, emin, EReal.coe_le_coe_iff]
  exact kladder e f (clamp x)

theorem kselH (hx : v5 (ix2 u l) = (x : EReal)) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal))
    (hf0 : f0 (ix2 u l) = (f 0 : EReal)) (hf1 : f1 (ix2 u l) = (f 1 : EReal)) (hf2 : f2 (ix2 u l) = (f 2 : EReal)) (hf3 : f3 (ix2 u l) = (f 3 : EReal)) (hf4 : f4 (ix2 u l) = (f 4 : EReal)) (hf5 : f5 (ix2 u l) = (f 5 : EReal)) (hf6 : f6 (ix2 u l) = (f 6 : EReal)) (hf7 : f7 (ix2 u l) = (f 7 : EReal)) :
    k0_pay94 v5 f0 f1 f2 f3 f4 f5 f6 f7 e1 e2 e3 e4 e5 e6 e7 (Scalar.ofBits .f32 0xC0400000#32) (ix2 u l) = ((f (bin e (clamp x)) : ℝ) : EReal) := by
  pointwise [k0_pay94, k0_pay85, k0_pay86, k0_pay87, k0_pay88, k0_pay89, k0_pay90, k0_pay91, k0_pay92]
  simp only [hx, he1, he2, he3, he4, he5, he6, he7, hf0, hf1, hf2, hf3, hf4, hf5, hf6, hf7, word_3, word_neg3, emax, emin, EReal.coe_le_coe_iff]
  exact kladder e f (clamp x)

theorem kselD0 (hx : v5 (ix2 u l) = (x : EReal)) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal))
    (hf0 : f0 (ix2 u l) = (f 0 : EReal)) (hf1 : f1 (ix2 u l) = (f 1 : EReal)) (hf2 : f2 (ix2 u l) = (f 2 : EReal)) (hf3 : f3 (ix2 u l) = (f 3 : EReal)) (hf4 : f4 (ix2 u l) = (f 4 : EReal)) (hf5 : f5 (ix2 u l) = (f 5 : EReal)) (hf6 : f6 (ix2 u l) = (f 6 : EReal)) (hf7 : f7 (ix2 u l) = (f 7 : EReal)) :
    k0_pay97 v5 f0 f1 f2 f3 f4 f5 f6 f7 e1 e2 e3 e4 e5 e6 e7 (Scalar.ofBits .f32 0xC0400000#32) (ix2 u l) = ((f (bin e (clamp x)) : ℝ) : EReal) := by
  pointwise [k0_pay97, k0_pay85, k0_pay86, k0_pay87, k0_pay88, k0_pay89, k0_pay90, k0_pay91, k0_pay92]
  simp only [hx, he1, he2, he3, he4, he5, he6, he7, hf0, hf1, hf2, hf3, hf4, hf5, hf6, hf7, word_3, word_neg3, emax, emin, EReal.coe_le_coe_iff]
  exact kladder e f (clamp x)

theorem kselD1 (hx : v5 (ix2 u l) = (x : EReal)) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal))
    (hf0 : f0 (ix2 u l) = (f 0 : EReal)) (hf1 : f1 (ix2 u l) = (f 1 : EReal)) (hf2 : f2 (ix2 u l) = (f 2 : EReal)) (hf3 : f3 (ix2 u l) = (f 3 : EReal)) (hf4 : f4 (ix2 u l) = (f 4 : EReal)) (hf5 : f5 (ix2 u l) = (f 5 : EReal)) (hf6 : f6 (ix2 u l) = (f 6 : EReal)) (hf7 : f7 (ix2 u l) = (f 7 : EReal)) :
    k0_pay98 v5 f0 f1 f2 f3 f4 f5 f6 f7 e1 e2 e3 e4 e5 e6 e7 (Scalar.ofBits .f32 0xC0400000#32) (ix2 u l) = ((f (bin e (clamp x)) : ℝ) : EReal) := by
  pointwise [k0_pay98, k0_pay85, k0_pay86, k0_pay87, k0_pay88, k0_pay89, k0_pay90, k0_pay91, k0_pay92]
  simp only [hx, he1, he2, he3, he4, he5, he6, he7, hf0, hf1, hf2, hf3, hf4, hf5, hf6, hf7, word_3, word_neg3, emax, emin, EReal.coe_le_coe_iff]
  exact kladder e f (clamp x)

theorem kselX (hx : v5 (ix2 u l) = (x : EReal)) (h0 : e 0 = -3) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal)) :
    k0_pay95 v5 e1 e2 e3 e4 e5 e6 e7 (Scalar.ofBits .f32 0xC0400000#32) (ix2 u l) = ((e (bin e (clamp x)) : ℝ) : EReal) := by
  pointwise [k0_pay95, k0_pay85, k0_pay86, k0_pay87, k0_pay88, k0_pay89, k0_pay90, k0_pay91, k0_pay92]
  simp only [hx, he1, he2, he3, he4, he5, he6, he7, word_3, word_neg3, emax, emin, EReal.coe_le_coe_iff]
  have h := kladder e e (clamp x)
  rw [h0] at h
  exact h

theorem kselY (hx : v5 (ix2 u l) = (x : EReal)) (h0 : f 0 = -3) (he1 : e1 (ix2 u l) = (e 1 : EReal)) (he2 : e2 (ix2 u l) = (e 2 : EReal)) (he3 : e3 (ix2 u l) = (e 3 : EReal)) (he4 : e4 (ix2 u l) = (e 4 : EReal)) (he5 : e5 (ix2 u l) = (e 5 : EReal)) (he6 : e6 (ix2 u l) = (e 6 : EReal)) (he7 : e7 (ix2 u l) = (e 7 : EReal))
    (hf1 : f1 (ix2 u l) = (f 1 : EReal)) (hf2 : f2 (ix2 u l) = (f 2 : EReal)) (hf3 : f3 (ix2 u l) = (f 3 : EReal)) (hf4 : f4 (ix2 u l) = (f 4 : EReal)) (hf5 : f5 (ix2 u l) = (f 5 : EReal)) (hf6 : f6 (ix2 u l) = (f 6 : EReal)) (hf7 : f7 (ix2 u l) = (f 7 : EReal)) :
    k0_pay96 v5 e1 f1 e2 f2 e3 f3 e4 f4 e5 f5 e6 f6 e7 f7 (Scalar.ofBits .f32 0xC0400000#32) (ix2 u l) = ((f (bin e (clamp x)) : ℝ) : EReal) := by
  pointwise [k0_pay96, k0_pay85, k0_pay86, k0_pay87, k0_pay88, k0_pay89, k0_pay90, k0_pay91, k0_pay92]
  simp only [hx, he1, he2, he3, he4, he5, he6, he7, hf1, hf2, hf3, hf4, hf5, hf6, hf7, word_3, word_neg3, emax, emin, EReal.coe_le_coe_iff]
  have h := kladder e f (clamp x)
  rw [h0] at h
  exact h

end

/-! ## The piece -/

section

/-- A softplus and the least slope, as the kernel spells them. -/
theorem kslope (v : ℝ) :
    max (v : EReal) 0 + Ideal.log (1 + Ideal.exp (0 - max (v : EReal) (-(v : EReal)))) + (least : EReal)
      = ((slope v : ℝ) : EReal) := by
  have h : 0 < 1 + Real.exp (-|v|) := by positivity
  rw [eabs, zero_sub, ← EReal.coe_neg, Ideal.exp_coe, ← EReal.coe_one, ← EReal.coe_add, elog h, ← EReal.coe_zero, emax,
    ← EReal.coe_add, ← EReal.coe_add]
  rfl

variable {vx vW vH vX vY vd0 vd1 v5 : FVec Ideal S32x4096 .f32} {p : Piece} {x y r0 r1 : ℝ}

theorem kslope0 (h : vd0 (ix2 u l) = (r0 : EReal)) :
    k0_pay100 vd0 (k0_pay99 (F := Ideal)) (ix2 u l) = ((slope r0 : ℝ) : EReal) := by
  pointwise [k0_pay100, k0_pay99]
  rw [h, word_least]
  exact kslope r0

theorem kslope1 (h : vd1 (ix2 u l) = (r1 : EReal)) :
    k0_pay101 vd1 (ix2 u l) = ((slope r1 : ℝ) : EReal) := by
  pointwise [k0_pay101]
  rw [h, word_least]
  exact kslope r1

variable (hW : vW (ix2 u l) = (p.W : EReal))
include hW

theorem kone (g : 0 < p.W) : k0_pay102 vW (ix2 u l) = ((1 / p.W : ℝ) : EReal) := by
  pointwise [k0_pay102]
  rw [hW, ← EReal.coe_one, ediv g.ne']

theorem ks (g : 0 < p.W) (hH : vH (ix2 u l) = (p.H : EReal)) : k0_pay103 vW vH (ix2 u l) = (p.s : EReal) := by
  pointwise [k0_pay103]
  rw [kone hW g, hH, ← EReal.coe_mul, mul_one_div]
  rfl

variable (hx : vx (ix2 u l) = (x : EReal)) (hX : vX (ix2 u l) = (p.X : EReal))
include hx hX

theorem kθ (g : 0 < p.W) : k0_pay104 vx vW vX (ix2 u l) = (p.θ x : EReal) := by
  pointwise [k0_pay104]
  rw [kone hW g, hx, hX, ← EReal.coe_sub, ← EReal.coe_mul, mul_one_div]
  rfl

theorem kω (g : 0 < p.W) : k0_pay105 vx vW vX (ix2 u l) = ((1 - p.θ x : ℝ) : EReal) := by
  pointwise [k0_pay105]
  rw [kθ hW hx hX g, ← EReal.coe_one, ← EReal.coe_sub]

theorem kt (g : 0 < p.W) : k0_pay106 vx vW vX (ix2 u l) = (p.t x : EReal) := by
  pointwise [k0_pay106]
  rw [kθ hW hx hX g, kω hW hx hX g, ← EReal.coe_mul]
  rfl

theorem kθ2 (g : 0 < p.W) : k0_pay107 vx vW vX (ix2 u l) = ((p.θ x * p.θ x : ℝ) : EReal) := by
  pointwise [k0_pay107]
  rw [kθ hW hx hX g, ← EReal.coe_mul]

variable (hH : vH (ix2 u l) = (p.H : EReal)) (h0 : vd0 (ix2 u l) = (r0 : EReal)) (h1 : vd1 (ix2 u l) = (r1 : EReal))
  (e0 : slope r0 = p.d0) (e1 : slope r1 = p.d1) (g : p.Good x)
include hH h0 h1 e0 e1 g

theorem kden : k0_pay108 vx vW vH vX vd0 vd1 (k0_pay99 (F := Ideal)) (ix2 u l) = ((1 / p.den x : ℝ) : EReal) := by
  pointwise [k0_pay108]
  rw [ks hW g.W hH, kt hW hx hX g.W, kslope0 h0, kslope1 h1, e0, e1, word_2]
  simp only [← EReal.coe_add, ← EReal.coe_sub, ← EReal.coe_mul]
  rw [← EReal.coe_one, show p.s + (p.d1 + p.d0 - 2 * p.s) * p.t x = p.den x from rfl, ediv g.den_pos.ne']

theorem ky (hY : vY (ix2 u l) = (p.Y : EReal)) :
    k0_pay109 vx vW vH vX vY vd0 vd1 (k0_pay99 (F := Ideal)) (ix2 u l) = (p.y x : EReal) := by
  pointwise [k0_pay109]
  rw [kden hW hx hX hH h0 h1 e0 e1 g, ks hW g.W hH, kt hW hx hX g.W, kθ2 hW hx hX g.W, kslope0 h0, e0, hH, hY]
  simp only [← EReal.coe_add, ← EReal.coe_sub, ← EReal.coe_mul]
  rw [mul_one_div]
  rfl

omit h0 e0 in
theorem kd1θ2 : k0_pay110 vx vW vX vd1 (ix2 u l) = ((p.d1 * (p.θ x * p.θ x) : ℝ) : EReal) := by
  pointwise [k0_pay110]
  rw [kslope1 h1, kθ2 hW hx hX g.W, e1, ← EReal.coe_mul]

end

/-- The choice by the open interval. -/
theorem kinside {A : Type} (v : ℝ) (a b : A) :
    Scalar.select (IntOp.andi (BitVec.ofBool (decide (((-3 : ℝ) : EReal) < (v : EReal))))
      (BitVec.ofBool (decide ((v : EReal) < ((3 : ℝ) : EReal))))) a b = if -3 < v ∧ v < 3 then a else b := by
  simp only [EReal.coe_lt_coe_iff]
  by_cases h : -3 < v <;> by_cases h' : v < 3 <;> simp [h, h', Scalar.select, IntOp.andi]

end

end Cert.Flow

end
-- ==== Proof.KChain.lean ====
/- The chain of the kernel's values at one place of a block, and its two results there. -/
module

public import proofs.«01_k».proof.Proof.KSpline
public import Idealize.ShloMosaic.Lib.Pipeline.ValueKit

@[expose] public section

set_option maxRecDepth 16384

noncomputable section

namespace Cert.Flow

open Idealize.ShloMosaic Cert.KernelIdeal Cert.KernelIdeal.Gen

/-- The raw widths, heights and slopes of dimension `u`. -/
def rawW (P : Weights) (s : Fin 64 → ℝ) (u : Fin 32) (k : ℕ) : ℝ := rawAt P (evens s) u k

def rawH (P : Weights) (s : Fin 64 → ℝ) (u : Fin 32) (k : ℕ) : ℝ := rawAt P (evens s) u (8 + k)

def rawD (P : Weights) (s : Fin 64 → ℝ) (u : Fin 32) (k : ℕ) : ℝ := rawAt P (evens s) u (16 + k)

/-- The piece of dimension `u` of a sample. -/
def pieceOf (P : Weights) (s : Fin 64 → ℝ) (u : Fin 32) : Piece :=
  piece (rawW P s u) (rawH P s u) (rawD P s u) (odds s u)

theorem pieceOf_good (P : Weights) (s : Fin 64 → ℝ) (u : Fin 32) : (pieceOf P s u).Good (clamp (odds s u)) :=
  piece_good _ _ _ _

/-- The moved coordinate of dimension `u`, and the logarithm of its derivative. -/
def outY (P : Weights) (s : Fin 64 → ℝ) (u : Fin 32) : ℝ :=
  splineY (rawW P s u) (rawH P s u) (rawD P s u) (odds s u)

def outLd (P : Weights) (s : Fin 64 → ℝ) (u : Fin 32) : ℝ :=
  splineLd (rawW P s u) (rawH P s u) (rawD P s u) (odds s u)

section

variable {u : Fin 32} {l : Fin 4096}

/-! ## The rows of a block of raw parameters -/

section

variable (a : FVec Ideal S1x4096 .f32) (b c : FVec Ideal S128x4096 .f32) (d e : Vec Ideal S128x1 .f32)
  (f : Vec Ideal S800x129 .f32)

theorem krow0 : k0_pay11 a b c d e f (ix2 u l) = k0_pay10 a b c d e f (ix2 ⟨32 * 0 + u.1, by omega⟩ l) := by
  pointwise [k0_pay11]

theorem krow1 : k0_pay12 a b c d e f (ix2 u l) = k0_pay10 a b c d e f (ix2 ⟨32 * 1 + u.1, by omega⟩ l) := by
  pointwise [k0_pay12]

theorem krow2 : k0_pay13 a b c d e f (ix2 u l) = k0_pay10 a b c d e f (ix2 ⟨32 * 2 + u.1, by omega⟩ l) := by
  pointwise [k0_pay13]

theorem krow3 : k0_pay14 a b c d e f (ix2 u l) = k0_pay10 a b c d e f (ix2 ⟨32 * 3 + u.1, by omega⟩ l) := by
  pointwise [k0_pay14]

theorem krow4 : k0_pay15 a b c d e f (ix2 u l) = k0_pay10 a b c d e f (ix2 ⟨32 * 4 + u.1, by omega⟩ l) := by
  pointwise [k0_pay15]

theorem krow5 : k0_pay16 a b c d e f (ix2 u l) = k0_pay10 a b c d e f (ix2 ⟨32 * 5 + u.1, by omega⟩ l) := by
  pointwise [k0_pay16]

theorem krow6 : k0_pay17 a b c d e f (ix2 u l) = k0_pay10 a b c d e f (ix2 ⟨32 * 6 + u.1, by omega⟩ l) := by
  pointwise [k0_pay17]

theorem krow7 : k0_pay18 a b c d e f (ix2 u l) = k0_pay10 a b c d e f (ix2 ⟨32 * 7 + u.1, by omega⟩ l) := by
  pointwise [k0_pay18]

theorem krow8 : k0_pay19 a b c d e f (ix2 u l) = k0_pay10 a b c d e f (ix2 ⟨32 * 8 + u.1, by omega⟩ l) := by
  pointwise [k0_pay19]

theorem krow9 : k0_pay20 a b c d e f (ix2 u l) = k0_pay10 a b c d e f (ix2 ⟨32 * 9 + u.1, by omega⟩ l) := by
  pointwise [k0_pay20]

theorem krow10 : k0_pay21 a b c d e f (ix2 u l) = k0_pay10 a b c d e f (ix2 ⟨32 * 10 + u.1, by omega⟩ l) := by
  pointwise [k0_pay21]

theorem krow11 : k0_pay22 a b c d e f (ix2 u l) = k0_pay10 a b c d e f (ix2 ⟨32 * 11 + u.1, by omega⟩ l) := by
  pointwise [k0_pay22]

theorem krow12 : k0_pay23 a b c d e f (ix2 u l) = k0_pay10 a b c d e f (ix2 ⟨32 * 12 + u.1, by omega⟩ l) := by
  pointwise [k0_pay23]

theorem krow13 : k0_pay24 a b c d e f (ix2 u l) = k0_pay10 a b c d e f (ix2 ⟨32 * 13 + u.1, by omega⟩ l) := by
  pointwise [k0_pay24]

theorem krow14 : k0_pay25 a b c d e f (ix2 u l) = k0_pay10 a b c d e f (ix2 ⟨32 * 14 + u.1, by omega⟩ l) := by
  pointwise [k0_pay25]

theorem krow15 : k0_pay26 a b c d e f (ix2 u l) = k0_pay10 a b c d e f (ix2 ⟨32 * 15 + u.1, by omega⟩ l) := by
  pointwise [k0_pay26]

theorem krow16 : k0_pay27 a b c d e f (ix2 u l) = k0_pay10 a b c d e f (ix2 ⟨32 * 16 + u.1, by omega⟩ l) := by
  pointwise [k0_pay27]

theorem krow17 : k0_pay28 a b c d e f (ix2 u l) = k0_pay10 a b c d e f (ix2 ⟨32 * 17 + u.1, by omega⟩ l) := by
  pointwise [k0_pay28]

theorem krow18 : k0_pay29 a b c d e f (ix2 u l) = k0_pay10 a b c d e f (ix2 ⟨32 * 18 + u.1, by omega⟩ l) := by
  pointwise [k0_pay29]

theorem krow19 : k0_pay30 a b c d e f (ix2 u l) = k0_pay10 a b c d e f (ix2 ⟨32 * 19 + u.1, by omega⟩ l) := by
  pointwise [k0_pay30]

theorem krow20 : k0_pay31 a b c d e f (ix2 u l) = k0_pay10 a b c d e f (ix2 ⟨32 * 20 + u.1, by omega⟩ l) := by
  pointwise [k0_pay31]

theorem krow21 : k0_pay32 a b c d e f (ix2 u l) = k0_pay10 a b c d e f (ix2 ⟨32 * 21 + u.1, by omega⟩ l) := by
  pointwise [k0_pay32]

theorem krow22 : k0_pay33 a b c d e f (ix2 u l) = k0_pay10 a b c d e f (ix2 ⟨32 * 22 + u.1, by omega⟩ l) := by
  pointwise [k0_pay33]

theorem krow23 : k0_pay34 a b c d e f (ix2 u l) = k0_pay10 a b c d e f (ix2 ⟨32 * 23 + u.1, by omega⟩ l) := by
  pointwise [k0_pay34]

theorem krow24 (v : FVec Ideal S800x4096 .f32) : k0_pay35 v (ix2 u l) = v (ix2 ⟨32 * 24 + u.1, by omega⟩ l) := by
  pointwise [k0_pay35]

end

/-! ## The chain -/

variable {P : Weights} {s : Fin 64 → ℝ} {x0 : Vec Ideal S64x4096 .f32} {x1 : Vec Ideal S64x64 .f32}
  {x2 : Vec Ideal S128x33 .f32} {x3 x4 : Vec Ideal S128x1 .f32} {x5 : Vec Ideal S128x129 .f32}
  {x6 x7 : Vec Ideal S128x1 .f32} {x8 : Vec Ideal S800x129 .f32} (H : Column P s l x0 x1 x2 x3 x4 x5 x6 x7 x8)
include H

theorem c112 : k0_pay112 x0 x1 x2 x3 x4 x5 x6 x7 x8 (ix2 u l) = (odds s u : EReal) := by
  unfold k0_pay112
  rw [View.ld_unit_zero (by funext a; fin_cases a <;> rfl), View.ld_unit_zero (by funext a; fin_cases a <;> rfl)]
  exact kxu H u

theorem c10 (q : ℕ) (hq : q < 25) :
    k0_pay10 (k0_pay113 x0 x1 x2 x3 x4 x5 x6 x7 x8) (k0_pay114 x0 x1 x2 x3 x4 x5 x6 x7 x8) (k0_pay115 x0 x1 x2 x3 x4 x5 x6 x7 x8) (View.ld x6 r0_3) (View.ld x7 r0_3) (View.ld x8 r0_5) (ix2 ⟨32 * q + u.1, by omega⟩ l) = (rawAt P (evens s) u q : EReal) := by
  unfold k0_pay113 k0_pay114 k0_pay115
  rw [View.ld_unit_zero (X := x0) (by funext a; fin_cases a <;> rfl), View.ld_unit_zero (X := x1) (by funext a; fin_cases a <;> rfl),
    View.ld_unit_zero (X := x2) (by funext a; fin_cases a <;> rfl), View.ld_unit_zero (X := x3) (by funext a; fin_cases a <;> rfl),
    View.ld_unit_zero (X := x4) (by funext a; fin_cases a <;> rfl), View.ld_unit_zero (X := x5) (by funext a; fin_cases a <;> rfl),
    View.ld_unit_zero (X := x6) (by funext a; fin_cases a <;> rfl), View.ld_unit_zero (X := x7) (by funext a; fin_cases a <;> rfl),
    View.ld_unit_zero (X := x8) (by funext a; fin_cases a <;> rfl)]
  exact kraw H u q hq

theorem c116 : k0_pay116 x0 x1 x2 x3 x4 x5 x6 x7 x8 (ix2 u l) = (rawW P s u 0 : EReal) :=
  (krow0 _ _ _ _ _ _).trans (c10 H 0 (by omega))

theorem c117 : k0_pay117 x0 x1 x2 x3 x4 x5 x6 x7 x8 (ix2 u l) = (rawW P s u 1 : EReal) :=
  (krow1 _ _ _ _ _ _).trans (c10 H 1 (by omega))

theorem c118 : k0_pay118 x0 x1 x2 x3 x4 x5 x6 x7 x8 (ix2 u l) = (rawW P s u 2 : EReal) :=
  (krow2 _ _ _ _ _ _).trans (c10 H 2 (by omega))

theorem c119 : k0_pay119 x0 x1 x2 x3 x4 x5 x6 x7 x8 (ix2 u l) = (rawW P s u 3 : EReal) :=
  (krow3 _ _ _ _ _ _).trans (c10 H 3 (by omega))

theorem c120 : k0_pay120 x0 x1 x2 x3 x4 x5 x6 x7 x8 (ix2 u l) = (rawW P s u 4 : EReal) :=
  (krow4 _ _ _ _ _ _).trans (c10 H 4 (by omega))

theorem c121 : k0_pay121 x0 x1 x2 x3 x4 x5 x6 x7 x8 (ix2 u l) = (rawW P s u 5 : EReal) :=
  (krow5 _ _ _ _ _ _).trans (c10 H 5 (by omega))

theorem c122 : k0_pay122 x0 x1 x2 x3 x4 x5 x6 x7 x8 (ix2 u l) = (rawW P s u 6 : EReal) :=
  (krow6 _ _ _ _ _ _).trans (c10 H 6 (by omega))

theorem c123 : k0_pay123 x0 x1 x2 x3 x4 x5 x6 x7 x8 (ix2 u l) = (rawW P s u 7 : EReal) :=
  (krow7 _ _ _ _ _ _).trans (c10 H 7 (by omega))

theorem c124 : k0_pay124 x0 x1 x2 x3 x4 x5 x6 x7 x8 (ix2 u l) = (rawH P s u 0 : EReal) :=
  (krow8 _ _ _ _ _ _).trans (c10 H 8 (by omega))

theorem c125 : k0_pay125 x0 x1 x2 x3 x4 x5 x6 x7 x8 (ix2 u l) = (rawH P s u 1 : EReal) :=
  (krow9 _ _ _ _ _ _).trans (c10 H 9 (by omega))

theorem c126 : k0_pay126 x0 x1 x2 x3 x4 x5 x6 x7 x8 (ix2 u l) = (rawD P s u 1 : EReal) :=
  (krow17 _ _ _ _ _ _).trans (c10 H 17 (by omega))

theorem c127 : k0_pay127 x0 x1 x2 x3 x4 x5 x6 x7 x8 (ix2 u l) = (rawD P s u 2 : EReal) :=
  (krow18 _ _ _ _ _ _).trans (c10 H 18 (by omega))

theorem c128 : k0_pay128 x0 x1 x2 x3 x4 x5 x6 x7 x8 (ix2 u l) = (rawD P s u 3 : EReal) :=
  (krow19 _ _ _ _ _ _).trans (c10 H 19 (by omega))

theorem c129 : k0_pay129 x0 x1 x2 x3 x4 x5 x6 x7 x8 (ix2 u l) = (rawD P s u 4 : EReal) :=
  (krow20 _ _ _ _ _ _).trans (c10 H 20 (by omega))

theorem c130 : k0_pay130 x0 x1 x2 x3 x4 x5 x6 x7 x8 (ix2 u l) = (rawD P s u 5 : EReal) :=
  (krow21 _ _ _ _ _ _).trans (c10 H 21 (by omega))

theorem c131 : k0_pay131 x0 x1 x2 x3 x4 x5 x6 x7 x8 (ix2 u l) = (rawD P s u 6 : EReal) :=
  (krow22 _ _ _ _ _ _).trans (c10 H 22 (by omega))

theorem c132 : k0_pay132 x0 x1 x2 x3 x4 x5 x6 x7 x8 (ix2 u l) = (rawD P s u 7 : EReal) :=
  (krow23 _ _ _ _ _ _).trans (c10 H 23 (by omega))

theorem c133 : k0_pay133 x0 x1 x2 x3 x4 x5 x6 x7 x8 (ix2 u l) = ((size (rawW P s u) 0 : ℝ) : EReal) :=
  kwidth0 (a := rawW P s u) (c116 H) (c117 H) (c118 H) (c119 H) (c120 H) (c121 H) (c122 H) (c123 H)

theorem c134 : k0_pay134 x0 x1 x2 x3 x4 x5 x6 x7 x8 (ix2 u l) = ((size (rawW P s u) 1 : ℝ) : EReal) :=
  kwidth1 (a := rawW P s u) (c116 H) (c117 H) (c118 H) (c119 H) (c120 H) (c121 H) (c122 H) (c123 H)

theorem c135 : k0_pay135 x0 x1 x2 x3 x4 x5 x6 x7 x8 (ix2 u l) = ((size (rawW P s u) 2 : ℝ) : EReal) :=
  kwidth2 (a := rawW P s u) (c116 H) (c117 H) (c118 H) (c119 H) (c120 H) (c121 H) (c122 H) (c123 H)

theorem c136 : k0_pay136 x0 x1 x2 x3 x4 x5 x6 x7 x8 (ix2 u l) = ((size (rawW P s u) 3 : ℝ) : EReal) :=
  kwidth3 (a := rawW P s u) (c116 H) (c117 H) (c118 H) (c119 H) (c120 H) (c121 H) (c122 H) (c123 H)

theorem c137 : k0_pay137 x0 x1 x2 x3 x4 x5 x6 x7 x8 (ix2 u l) = ((size (rawW P s u) 4 : ℝ) : EReal) :=
  kwidth4 (a := rawW P s u) (c116 H) (c117 H) (c118 H) (c119 H) (c120 H) (c121 H) (c122 H) (c123 H)

theorem c138 : k0_pay138 x0 x1 x2 x3 x4 x5 x6 x7 x8 (ix2 u l) = ((size (rawW P s u) 5 : ℝ) : EReal) :=
  kwidth5 (a := rawW P s u) (c116 H) (c117 H) (c118 H) (c119 H) (c120 H) (c121 H) (c122 H) (c123 H)

theorem c139 : k0_pay139 x0 x1 x2 x3 x4 x5 x6 x7 x8 (ix2 u l) = ((size (rawW P s u) 6 : ℝ) : EReal) :=
  kwidth6 (a := rawW P s u) (c116 H) (c117 H) (c118 H) (c119 H) (c120 H) (c121 H) (c122 H) (c123 H)

theorem c140 : k0_pay140 x0 x1 x2 x3 x4 x5 x6 x7 x8 (ix2 u l) = ((Real.exp (rawH P s u 0) : ℝ) : EReal) :=
  congrArg Ideal.exp (c124 H)

theorem c141 : k0_pay141 x0 x1 x2 x3 x4 x5 x6 x7 x8 (ix2 u l) = ((Real.exp (rawH P s u 1) : ℝ) : EReal) :=
  congrArg Ideal.exp (c125 H)

theorem c142 : k0_pay142 x0 x1 x2 x3 x4 x5 x6 x7 x8 (ix2 u l) = ((Real.exp (rawH P s u 2) : ℝ) : EReal) :=
  congrArg Ideal.exp ((krow10 _ _ _ _ _ _).trans (c10 H 10 (by omega)))

theorem c143 : k0_pay143 x0 x1 x2 x3 x4 x5 x6 x7 x8 (ix2 u l) = ((Real.exp (rawH P s u 3) : ℝ) : EReal) :=
  congrArg Ideal.exp ((krow11 _ _ _ _ _ _).trans (c10 H 11 (by omega)))

theorem c144 : k0_pay144 x0 x1 x2 x3 x4 x5 x6 x7 x8 (ix2 u l) = ((Real.exp (rawH P s u 4) : ℝ) : EReal) :=
  congrArg Ideal.exp ((krow12 _ _ _ _ _ _).trans (c10 H 12 (by omega)))

theorem c145 : k0_pay145 x0 x1 x2 x3 x4 x5 x6 x7 x8 (ix2 u l) = ((Real.exp (rawH P s u 5) : ℝ) : EReal) :=
  congrArg Ideal.exp ((krow13 _ _ _ _ _ _).trans (c10 H 13 (by omega)))

theorem c146 : k0_pay146 x0 x1 x2 x3 x4 x5 x6 x7 x8 (ix2 u l) = ((Real.exp (rawH P s u 6) : ℝ) : EReal) :=
  congrArg Ideal.exp ((krow14 _ _ _ _ _ _).trans (c10 H 14 (by omega)))

theorem c147 : k0_pay147 x0 x1 x2 x3 x4 x5 x6 x7 x8 (ix2 u l) = ((Real.exp (rawH P s u 7) : ℝ) : EReal) :=
  congrArg Ideal.exp ((krow15 _ _ _ _ _ _).trans (c10 H 15 (by omega)))

theorem c148 : k0_pay148 x0 x1 x2 x3 x4 x5 x6 x7 x8 (ix2 u l)
    = ((Real.exp (rawH P s u 0) : ℝ) : EReal) + ((Real.exp (rawH P s u 1) : ℝ) : EReal) :=
  congrArg₂ (· + ·) (c140 H) (c141 H)

theorem c149 : k0_pay149 x0 x1 x2 x3 x4 x5 x6 x7 x8 (ix2 u l) = ((edge (rawW P s u) 1 : ℝ) : EReal) :=
  kedge1 (a := rawW P s u) (c133 H)

theorem c150 : k0_pay150 x0 x1 x2 x3 x4 x5 x6 x7 x8 (ix2 u l) = ((edge (rawW P s u) 2 : ℝ) : EReal) :=
  kedge2 (a := rawW P s u) (c133 H) (c134 H)

theorem c151 : k0_pay151 x0 x1 x2 x3 x4 x5 x6 x7 x8 (ix2 u l) = ((edge (rawW P s u) 3 : ℝ) : EReal) :=
  kedge3 (a := rawW P s u) (c133 H) (c134 H) (c135 H)

theorem c152 : k0_pay152 x0 x1 x2 x3 x4 x5 x6 x7 x8 (ix2 u l) = ((edge (rawW P s u) 4 : ℝ) : EReal) :=
  kedge4 (a := rawW P s u) (c133 H) (c134 H) (c135 H) (c136 H)

theorem c153 : k0_pay153 x0 x1 x2 x3 x4 x5 x6 x7 x8 (ix2 u l) = ((edge (rawW P s u) 5 : ℝ) : EReal) :=
  kedge5 (a := rawW P s u) (c133 H) (c134 H) (c135 H) (c136 H) (c137 H)

theorem c154 : k0_pay154 x0 x1 x2 x3 x4 x5 x6 x7 x8 (ix2 u l) = ((edge (rawW P s u) 6 : ℝ) : EReal) :=
  kedge6 (a := rawW P s u) (c133 H) (c134 H) (c135 H) (c136 H) (c137 H) (c138 H)

theorem c155 : k0_pay155 x0 x1 x2 x3 x4 x5 x6 x7 x8 (ix2 u l) = ((edge (rawW P s u) 7 : ℝ) : EReal) :=
  kedge7 (a := rawW P s u) (c133 H) (c134 H) (c135 H) (c136 H) (c137 H) (c138 H) (c139 H)

theorem c156 : k0_pay156 x0 x1 x2 x3 x4 x5 x6 x7 x8 (ix2 u l) = ((clamp (odds s u) : ℝ) : EReal) := kclamp (c112 H)

theorem c157 : k0_pay157 x0 x1 x2 x3 x4 x5 x6 x7 x8 (ix2 u l) = ((pieceOf P s u).W : EReal) :=
  kselW (e := edge (rawW P s u)) (f := size (rawW P s u)) (c112 H) (c149 H) (c150 H) (c151 H) (c152 H) (c153 H) (c154 H) (c155 H)
    (c133 H) (c134 H) (c135 H) (c136 H) (c137 H) (c138 H) (c139 H) (kwidth7 (a := rawW P s u) (c116 H) (c117 H) (c118 H) (c119 H) (c120 H) (c121 H) (c122 H) (c123 H))

theorem c158 : k0_pay158 x0 x1 x2 x3 x4 x5 x6 x7 x8 (ix2 u l) = ((pieceOf P s u).H : EReal) :=
  kselH (e := edge (rawW P s u)) (f := size (rawH P s u)) (c112 H) (c149 H) (c150 H) (c151 H) (c152 H) (c153 H) (c154 H) (c155 H)
    (kheight0 (a := rawH P s u) (c140 H) (c142 H) (c143 H) (c144 H) (c145 H) (c146 H) (c147 H) (c148 H)) (kheight1 (a := rawH P s u) (c141 H) (c142 H) (c143 H) (c144 H) (c145 H) (c146 H) (c147 H) (c148 H)) (kheight2 (a := rawH P s u) (c142 H) (c143 H) (c144 H) (c145 H) (c146 H) (c147 H) (c148 H)) (kheight3 (a := rawH P s u) (c142 H) (c143 H) (c144 H) (c145 H) (c146 H) (c147 H) (c148 H)) (kheight4 (a := rawH P s u) (c142 H) (c143 H) (c144 H) (c145 H) (c146 H) (c147 H) (c148 H)) (kheight5 (a := rawH P s u) (c142 H) (c143 H) (c144 H) (c145 H) (c146 H) (c147 H) (c148 H)) (kheight6 (a := rawH P s u) (c142 H) (c143 H) (c144 H) (c145 H) (c146 H) (c147 H) (c148 H)) (kheight7 (a := rawH P s u) (c142 H) (c143 H) (c144 H) (c145 H) (c146 H) (c147 H) (c148 H))

theorem c159 : k0_pay159 x0 x1 x2 x3 x4 x5 x6 x7 x8 (ix2 u l) = ((pieceOf P s u).X : EReal) :=
  kselX (e := edge (rawW P s u)) (c112 H) rfl (c149 H) (c150 H) (c151 H) (c152 H) (c153 H) (c154 H) (c155 H)

theorem c160 : k0_pay160 x0 x1 x2 x3 x4 x5 x6 x7 x8 (ix2 u l)
    = ((rawD P s u (bin (edge (rawW P s u)) (clamp (odds s u))) : ℝ) : EReal) :=
  kselD0 (e := edge (rawW P s u)) (f := rawD P s u) (c112 H) (c149 H) (c150 H) (c151 H) (c152 H) (c153 H) (c154 H) (c155 H)
    ((krow16 _ _ _ _ _ _).trans (c10 H 16 (by omega))) (c126 H) (c127 H) (c128 H) (c129 H) (c130 H) (c131 H) (c132 H)

theorem c161 : k0_pay161 x0 x1 x2 x3 x4 x5 x6 x7 x8 (ix2 u l)
    = ((rawD P s u (bin (edge (rawW P s u)) (clamp (odds s u)) + 1) : ℝ) : EReal) :=
  kselD1 (e := edge (rawW P s u)) (f := fun k => rawD P s u (k + 1)) (c112 H) (c149 H) (c150 H) (c151 H) (c152 H) (c153 H) (c154 H) (c155 H)
    (c126 H) (c127 H) (c128 H) (c129 H) (c130 H) (c131 H) (c132 H) ((krow24 _).trans (c10 H 24 (by omega)))

theorem c96 : (k0_pay96 (k0_pay112 x0 x1 x2 x3 x4 x5 x6 x7 x8) (k0_pay149 x0 x1 x2 x3 x4 x5 x6 x7 x8) (k0_pay72 (k0_pay140 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay150 x0 x1 x2 x3 x4 x5 x6 x7 x8) (k0_pay74 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay151 x0 x1 x2 x3 x4 x5 x6 x7 x8) (k0_pay76 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay152 x0 x1 x2 x3 x4 x5 x6 x7 x8) (k0_pay78 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay153 x0 x1 x2 x3 x4 x5 x6 x7 x8) (k0_pay80 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay154 x0 x1 x2 x3 x4 x5 x6 x7 x8) (k0_pay82 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay155 x0 x1 x2 x3 x4 x5 x6 x7 x8) (k0_pay84 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (Scalar.ofBits .f32 0xC0400000#32)) (ix2 u l) = ((pieceOf P s u).Y : EReal) :=
  kselY (e := edge (rawW P s u)) (f := edge (rawH P s u)) (c112 H) rfl (c149 H) (c150 H) (c151 H) (c152 H) (c153 H) (c154 H) (c155 H)
    (kcorner1 (a := rawH P s u) (c140 H) (c142 H) (c143 H) (c144 H) (c145 H) (c146 H) (c147 H) (c148 H)) (kcorner2 (a := rawH P s u) (c140 H) (c141 H) (c142 H) (c143 H) (c144 H) (c145 H) (c146 H) (c147 H) (c148 H)) (kcorner3 (a := rawH P s u) (c140 H) (c141 H) (c142 H) (c143 H) (c144 H) (c145 H) (c146 H) (c147 H) (c148 H)) (kcorner4 (a := rawH P s u) (c140 H) (c141 H) (c142 H) (c143 H) (c144 H) (c145 H) (c146 H) (c147 H) (c148 H)) (kcorner5 (a := rawH P s u) (c140 H) (c141 H) (c142 H) (c143 H) (c144 H) (c145 H) (c146 H) (c147 H) (c148 H)) (kcorner6 (a := rawH P s u) (c140 H) (c141 H) (c142 H) (c143 H) (c144 H) (c145 H) (c146 H) (c147 H) (c148 H)) (kcorner7 (a := rawH P s u) (c140 H) (c141 H) (c142 H) (c143 H) (c144 H) (c145 H) (c146 H) (c147 H) (c148 H))

/-- The spline's value in its interval. -/
theorem c109 : k0_pay109 (k0_pay156 x0 x1 x2 x3 x4 x5 x6 x7 x8) (k0_pay157 x0 x1 x2 x3 x4 x5 x6 x7 x8) (k0_pay158 x0 x1 x2 x3 x4 x5 x6 x7 x8) (k0_pay159 x0 x1 x2 x3 x4 x5 x6 x7 x8) (k0_pay96 (k0_pay112 x0 x1 x2 x3 x4 x5 x6 x7 x8) (k0_pay149 x0 x1 x2 x3 x4 x5 x6 x7 x8) (k0_pay72 (k0_pay140 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay150 x0 x1 x2 x3 x4 x5 x6 x7 x8) (k0_pay74 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay151 x0 x1 x2 x3 x4 x5 x6 x7 x8) (k0_pay76 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay152 x0 x1 x2 x3 x4 x5 x6 x7 x8) (k0_pay78 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay153 x0 x1 x2 x3 x4 x5 x6 x7 x8) (k0_pay80 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay154 x0 x1 x2 x3 x4 x5 x6 x7 x8) (k0_pay82 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay155 x0 x1 x2 x3 x4 x5 x6 x7 x8) (k0_pay84 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (Scalar.ofBits .f32 0xC0400000#32)) (k0_pay160 x0 x1 x2 x3 x4 x5 x6 x7 x8) (k0_pay161 x0 x1 x2 x3 x4 x5 x6 x7 x8) (k0_pay162 x0 x1 x2 x3 x4 x5 x6 x7 x8) (ix2 u l)
    = ((pieceOf P s u).y (clamp (odds s u)) : EReal) :=
  ky (c157 H) (c156 H) (c159 H) (c158 H) (c160 H) (c161 H) rfl rfl (pieceOf_good P s u) (c96 H)

omit H in
/-- The last lines of the log-determinant, from real operands at every dimension. -/
theorem klogdet {v5 vd0 vs vω vt vr vq : FVec Ideal S32x4096 .f32} {p : Fin 32 → Piece} {x v : Fin 32 → ℝ}
    (h5 : ∀ u, v5 (ix2 u l) = (v u : EReal)) (hd : ∀ u, vd0 (ix2 u l) = ((p u).d0 : EReal))
    (hs : ∀ u, vs (ix2 u l) = ((p u).s : EReal)) (hω : ∀ u, vω (ix2 u l) = ((1 - (p u).θ (x u) : ℝ) : EReal))
    (ht : ∀ u, vt (ix2 u l) = ((p u).t (x u) : EReal)) (hr : ∀ u, vr (ix2 u l) = ((1 / (p u).den (x u) : ℝ) : EReal))
    (hq : ∀ u, vq (ix2 u l) = (((p u).d1 * ((p u).θ (x u) * (p u).θ (x u)) : ℝ) : EReal)) (g : ∀ u, (p u).Good (x u)) :
    k0_pay2 v5 vd0 vs vω vt vr vq (k0_pay111 (F := Ideal)) (ix2 0 l)
      = ((∑ u, if -3 < v u ∧ v u < 3 then (p u).ld (x u) else 0 : ℝ) : EReal) := by
  pointwise [k0_pay2, k0_pay1, k0_pay111]
  rw [← esum]
  refine Finset.sum_congr rfl fun u _ => ?_
  rw [h5, hd, hs, hω, ht, hr, hq, word_neg3, word_3, word_2, kinside]
  simp only [← EReal.coe_add, ← EReal.coe_mul]
  have e : (p u).d1 * ((p u).θ (x u) * (p u).θ (x u)) + 2 * (p u).s * (p u).t (x u)
      + (p u).d0 * (1 - (p u).θ (x u)) * (1 - (p u).θ (x u)) = (p u).numer (x u) := rfl
  rw [e, elog (g u).arg_pos, ← (g u).ld_eq]
  split_ifs <;> simp

/-- The second result's row of the block: the log-determinant of each column. -/
theorem kresult1 : k0_pay2 (k0_pay112 x0 x1 x2 x3 x4 x5 x6 x7 x8) (k0_pay100 (k0_pay160 x0 x1 x2 x3 x4 x5 x6 x7 x8) (k0_pay162 x0 x1 x2 x3 x4 x5 x6 x7 x8)) (k0_pay103 (k0_pay157 x0 x1 x2 x3 x4 x5 x6 x7 x8) (k0_pay158 x0 x1 x2 x3 x4 x5 x6 x7 x8)) (k0_pay105 (k0_pay156 x0 x1 x2 x3 x4 x5 x6 x7 x8) (k0_pay157 x0 x1 x2 x3 x4 x5 x6 x7 x8) (k0_pay159 x0 x1 x2 x3 x4 x5 x6 x7 x8)) (k0_pay106 (k0_pay156 x0 x1 x2 x3 x4 x5 x6 x7 x8) (k0_pay157 x0 x1 x2 x3 x4 x5 x6 x7 x8) (k0_pay159 x0 x1 x2 x3 x4 x5 x6 x7 x8)) (k0_pay108 (k0_pay156 x0 x1 x2 x3 x4 x5 x6 x7 x8) (k0_pay157 x0 x1 x2 x3 x4 x5 x6 x7 x8) (k0_pay158 x0 x1 x2 x3 x4 x5 x6 x7 x8) (k0_pay159 x0 x1 x2 x3 x4 x5 x6 x7 x8) (k0_pay160 x0 x1 x2 x3 x4 x5 x6 x7 x8) (k0_pay161 x0 x1 x2 x3 x4 x5 x6 x7 x8) (k0_pay162 x0 x1 x2 x3 x4 x5 x6 x7 x8)) (k0_pay110 (k0_pay156 x0 x1 x2 x3 x4 x5 x6 x7 x8) (k0_pay157 x0 x1 x2 x3 x4 x5 x6 x7 x8) (k0_pay159 x0 x1 x2 x3 x4 x5 x6 x7 x8) (k0_pay161 x0 x1 x2 x3 x4 x5 x6 x7 x8)) (k0_pay111 (F := Ideal)) (ix2 0 l)
    = ((∑ u, outLd P s u : ℝ) : EReal) :=
  klogdet (p := pieceOf P s) (x := fun u => clamp (odds s u)) (v := odds s) (fun _ => c112 H) (fun _ => kslope0 (c160 H))
    (fun u => ks (c157 H) (pieceOf_good P s u).W (c158 H)) (fun u => kω (c157 H) (c156 H) (c159 H) (pieceOf_good P s u).W)
    (fun u => kt (c157 H) (c156 H) (c159 H) (pieceOf_good P s u).W)
    (fun u => kden (c157 H) (c156 H) (c159 H) (c158 H) (c160 H) (c161 H) rfl rfl (pieceOf_good P s u))
    (fun u => kd1θ2 (c157 H) (c156 H) (c159 H) (c158 H) (c161 H) rfl (pieceOf_good P s u)) (pieceOf_good P s)

/-- A row of the first result: the even rows are the sample's own, the odd ones the spline's. -/
def outRow (P : Weights) (s : Fin 64 → ℝ) (j : Fin 64) : ℝ :=
  if h : j.1 % 2 = 0 then s j else outY P s ⟨j.1 / 2, by omega⟩

omit H in
/-- The two halves, put back in their places by the permutation. -/
theorem kput {v2 : Vec Ideal S64x64 .f32} {v4 v5 v : FVec Ideal S32x4096 .f32}
    (hp : ∀ i j : Fin 64, v2 (ix2 i j) = if j = pick i then (1 : EReal) else 0)
    (h4 : ∀ u, v4 (ix2 u l) = (evens s u : EReal)) (h5 : ∀ u, v5 (ix2 u l) = (odds s u : EReal))
    (hv : ∀ u, v (ix2 u l) = ((pieceOf P s u).y (clamp (odds s u)) : EReal)) (j : Fin 64) :
    k0_pay3 v2 v4 v5 v (ix2 j l) = ((outRow P s j : ℝ) : EReal) := by
  pointwise [k0_pay3, k0_pay1]
  simp only [h4, h5, hv, hp, pick_even, pick_odd, word_neg3, word_3, kinside]
  have e : ∀ u : Fin 32, (if -3 < odds s u ∧ odds s u < 3 then (((pieceOf P s u).y (clamp (odds s u)) : ℝ) : EReal)
      else (odds s u : EReal)) = ((outY P s u : ℝ) : EReal) := by
    intro u
    unfold outY splineY pieceOf
    split_ifs <;> rfl
  simp only [e]
  unfold outRow
  by_cases h : j.1 % 2 = 0
  · rw [dif_pos h, Finset.sum_eq_single (⟨j.1 / 2, by omega⟩ : Fin 32), Finset.sum_eq_zero]
    · have q : j = ⟨2 * (j.1 / 2), by omega⟩ := Fin.ext (by simp; omega)
      rw [if_pos q, one_mul, add_zero]
      exact congrArg (fun i => ((s i : ℝ) : EReal)) q.symm
    · intro x _
      rw [if_neg (fun q => by have := congrArg Fin.val q; simp at this; omega), zero_mul]
    · intro x _ hx
      rw [if_neg (fun q => hx (Fin.ext (by have := congrArg Fin.val q; simp at this; simp; omega))), zero_mul]
    · exact fun hn => absurd (Finset.mem_univ _) hn
  · rw [dif_neg h, Finset.sum_eq_zero, Finset.sum_eq_single (⟨j.1 / 2, by omega⟩ : Fin 32)]
    · have q : j = ⟨2 * (j.1 / 2) + 1, by omega⟩ := Fin.ext (by simp; omega)
      rw [if_pos q, one_mul, zero_add]
    · intro x _ hx
      rw [if_neg (fun q => hx (Fin.ext (by have := congrArg Fin.val q; simp at this; simp; omega))), zero_mul]
    · exact fun hn => absurd (Finset.mem_univ _) hn
    · intro x _
      rw [if_neg (fun q => by have := congrArg Fin.val q; simp at this; omega), zero_mul]

/-- The block of the first result. -/
theorem kresult0 (j : Fin 64) : k0_pay3 x1 (k0_pay5 x0 x1) (k0_pay112 x0 x1 x2 x3 x4 x5 x6 x7 x8) (k0_pay109 (k0_pay156 x0 x1 x2 x3 x4 x5 x6 x7 x8) (k0_pay157 x0 x1 x2 x3 x4 x5 x6 x7 x8) (k0_pay158 x0 x1 x2 x3 x4 x5 x6 x7 x8) (k0_pay159 x0 x1 x2 x3 x4 x5 x6 x7 x8) (k0_pay96 (k0_pay112 x0 x1 x2 x3 x4 x5 x6 x7 x8) (k0_pay149 x0 x1 x2 x3 x4 x5 x6 x7 x8) (k0_pay72 (k0_pay140 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay150 x0 x1 x2 x3 x4 x5 x6 x7 x8) (k0_pay74 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay151 x0 x1 x2 x3 x4 x5 x6 x7 x8) (k0_pay76 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay152 x0 x1 x2 x3 x4 x5 x6 x7 x8) (k0_pay78 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay153 x0 x1 x2 x3 x4 x5 x6 x7 x8) (k0_pay80 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay154 x0 x1 x2 x3 x4 x5 x6 x7 x8) (k0_pay82 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (k0_pay155 x0 x1 x2 x3 x4 x5 x6 x7 x8) (k0_pay84 (k0_pay140 x0 x1 x2 x3 x4 x5 x6 x7 x8) (k0_pay141 x0 x1 x2 x3 x4 x5 x6 x7 x8) (k0_pay142 x0 x1 x2 x3 x4 x5 x6 x7 x8) (k0_pay143 x0 x1 x2 x3 x4 x5 x6 x7 x8) (k0_pay144 x0 x1 x2 x3 x4 x5 x6 x7 x8) (k0_pay145 x0 x1 x2 x3 x4 x5 x6 x7 x8) (k0_pay146 x0 x1 x2 x3 x4 x5 x6 x7 x8) (k0_pay147 x0 x1 x2 x3 x4 x5 x6 x7 x8) (k0_pay148 x0 x1 x2 x3 x4 x5 x6 x7 x8)) (Scalar.ofBits .f32 0xC0400000#32)) (k0_pay160 x0 x1 x2 x3 x4 x5 x6 x7 x8) (k0_pay161 x0 x1 x2 x3 x4 x5 x6 x7 x8) (k0_pay162 x0 x1 x2 x3 x4 x5 x6 x7 x8)) (ix2 j l)
    = ((outRow P s j : ℝ) : EReal) :=
  kput H.perm (kx H) (fun _ => c112 H) (fun _ => c109 H) j

end

end Cert.Flow

end
-- ==== Proof.Data.lean ====
/- The arguments as real numbers, and the two results as functions of them. -/
module

public import proofs.«01_k».proof.Proof.KChain

@[expose] public section

noncomputable section

namespace Cert.Flow

open Idealize.ShloMosaic

/-- The arguments: the samples, then the weights in the order that they are given in. -/
structure Args where
  x : FVec Ideal ⟨2, ![262144, 64]⟩ .f32
  W0 : FVec Ideal ⟨2, ![32, 128]⟩ .f32
  b0 : FVec Ideal ⟨1, ![128]⟩ .f32
  g0 : FVec Ideal ⟨1, ![128]⟩ .f32
  be0 : FVec Ideal ⟨1, ![128]⟩ .f32
  W1 : FVec Ideal ⟨2, ![128, 128]⟩ .f32
  b1 : FVec Ideal ⟨1, ![128]⟩ .f32
  g1 : FVec Ideal ⟨1, ![128]⟩ .f32
  be1 : FVec Ideal ⟨1, ![128]⟩ .f32
  Wp : FVec Ideal ⟨2, ![128, 800]⟩ .f32
  bp : FVec Ideal ⟨1, ![800]⟩ .f32

namespace Args

variable (A : Args)

/-- The weights as reals. -/
def weights : Weights where
  W0 k j := (A.W0 (ix2 k j) : EReal).toReal
  b0 j := (A.b0 (ix1 j) : EReal).toReal
  g0 j := (A.g0 (ix1 j) : EReal).toReal
  be0 j := (A.be0 (ix1 j) : EReal).toReal
  W1 k j := (A.W1 (ix2 k j) : EReal).toReal
  b1 j := (A.b1 (ix1 j) : EReal).toReal
  g1 j := (A.g1 (ix1 j) : EReal).toReal
  be1 j := (A.be1 (ix1 j) : EReal).toReal
  Wp k n := (A.Wp (ix2 k n) : EReal).toReal
  bp n := (A.bp (ix1 n) : EReal).toReal

/-- A sample as reals. -/
def sample (b : Fin 262144) (j : Fin 64) : ℝ := (A.x (ix2 b j) : EReal).toReal

/-- Every argument is made of real numbers. -/
structure Finite : Prop where
  x : ∀ b j, A.x (ix2 b j) = ((A.sample b j : ℝ) : EReal)
  W0 : ∀ k j, A.W0 (ix2 k j) = ((A.weights.W0 k j : ℝ) : EReal)
  b0 : ∀ j, A.b0 (ix1 j) = ((A.weights.b0 j : ℝ) : EReal)
  g0 : ∀ j, A.g0 (ix1 j) = ((A.weights.g0 j : ℝ) : EReal)
  be0 : ∀ j, A.be0 (ix1 j) = ((A.weights.be0 j : ℝ) : EReal)
  W1 : ∀ k j, A.W1 (ix2 k j) = ((A.weights.W1 k j : ℝ) : EReal)
  b1 : ∀ j, A.b1 (ix1 j) = ((A.weights.b1 j : ℝ) : EReal)
  g1 : ∀ j, A.g1 (ix1 j) = ((A.weights.g1 j : ℝ) : EReal)
  be1 : ∀ j, A.be1 (ix1 j) = ((A.weights.be1 j : ℝ) : EReal)
  Wp : ∀ k n, A.Wp (ix2 k n) = ((A.weights.Wp k n : ℝ) : EReal)
  bp : ∀ n, A.bp (ix1 n) = ((A.weights.bp n : ℝ) : EReal)

/-- The moved samples. -/
def moved : FVec Ideal ⟨2, ![262144, 64]⟩ .f32 := fun i => ((outRow A.weights (A.sample (i 0)) (i 1) : ℝ) : EReal)

/-- The log-determinant of each sample. -/
def logdet : FVec Ideal ⟨1, ![262144]⟩ .f32 := fun i => ((∑ u, outLd A.weights (A.sample (i 0)) u : ℝ) : EReal)

end Args

end Cert.Flow

end
-- ==== Proof.KRun.lean ====
/- The kernel's run: what its windows read of the arguments, what its blocks leave in the two arrays, and what the
   host makes of these. -/
module

public import proofs.«01_k».proof.Proof.Data
public import Idealize.ShloMosaic.Lib.Pipeline.ValueKit
public import Idealize.ShloMosaic.Lib.Pipeline.FrameTail
public import Idealize.ShloMosaic.Lib.Claim

@[expose] public section

set_option maxRecDepth 16384

noncomputable section

namespace Cert.Flow

open Idealize.ShloMosaic Idealize.SL.Sem Cert.KernelIdeal Cert.KernelIdeal.Gen

variable (m : (ℓ : Loc nD τ sig) → Buf (Elt Ideal) ℓ)

/-- The arguments on one device. -/
def kargs (c : Dev nD) : Args where
  x := m ((c.tc : Thread nD τ).loc main_arg0)
  W0 := m ((c.tc : Thread nD τ).loc main_arg1)
  b0 := m ((c.tc : Thread nD τ).loc main_arg2)
  g0 := m ((c.tc : Thread nD τ).loc main_arg3)
  be0 := m ((c.tc : Thread nD τ).loc main_arg4)
  W1 := m ((c.tc : Thread nD τ).loc main_arg5)
  b1 := m ((c.tc : Thread nD τ).loc main_arg6)
  g1 := m ((c.tc : Thread nD τ).loc main_arg7)
  be1 := m ((c.tc : Thread nD τ).loc main_arg8)
  Wp := m ((c.tc : Thread nD τ).loc main_arg9)
  bp := m ((c.tc : Thread nD τ).loc main_arg10)

/-! ## The host's lines before the region -/

section

variable (c : Dev nD)

/-- The table is the permutation: a one where the column is the dimension picked, and zeros. -/
theorem table_word : ∀ n : Fin 4096, lit0 n
    = if (if n.1 / 64 < 32 then 2 * (n.1 / 64) else 2 * (n.1 / 64 - 32) + 1) = n.1 % 64 then 0x3F800000#32 else 0#32 := by
  decide +kernel

theorem hperm (i j : Fin 64) : V m c main_cst (ix2 i j) = (if j = pick i then (1 : EReal) else 0) := by
  unfold V V0
  simp only [List.flatten_cons, List.flatten_nil, List.append_nil, hostOps0]
  after_results
  have e : ((S64x64.rowMajor (ix2 i j)).1 : ℕ) = i.1 * 64 + j.1 := by
    simp [Shape.rowMajor_val_two]
  have w := table_word (S64x64.rowMajor (ix2 i j))
  have h1 : (i.1 * 64 + j.1) / 64 = i.1 := by omega
  have h2 : (i.1 * 64 + j.1) % 64 = j.1 := by omega
  rw [e, h1, h2] at w
  refine (congrArg (FloatOps.ofBits (F := Ideal) FTy.f32) w).trans ?_
  by_cases h : j = pick i
  · rw [if_pos h, if_pos (by rw [h]; unfold pick; split_ifs <;> rfl)]
    exact word_1.trans EReal.coe_one
  · rw [if_neg h, if_neg (fun h' => h (Fin.ext (by rw [← h']; unfold pick; split_ifs <;> rfl)))]
    exact Ideal.ofBits_zero _

theorem hx (j : Fin 64) (b : Fin 262144) : V m c main_v13 (ix2 j b) = (kargs m c).x (ix2 b j) := by
  unfold V V0
  simp only [List.flatten_cons, List.flatten_nil, List.append_nil, hostOps0]
  after_results
  pointwise
  rfl

theorem hW0 (j : Fin 128) (k : Fin 32) : V m c main_v2 (ix2 j ⟨k.1, by omega⟩) = (kargs m c).W0 (ix2 k j) := by
  unfold V V0
  simp only [List.flatten_cons, List.flatten_nil, List.append_nil, hostOps0]
  after_results
  pointwise
  rfl

theorem hb0 (j : Fin 128) : V m c main_v2 (ix2 j 32) = (kargs m c).b0 (ix1 j) := by
  unfold V V0
  simp only [List.flatten_cons, List.flatten_nil, List.append_nil, hostOps0]
  after_results
  pointwise
  rfl

theorem hg0 (j : Fin 128) : V m c main_v14 (ix2 j 0) = (kargs m c).g0 (ix1 j) := by
  unfold V V0
  simp only [List.flatten_cons, List.flatten_nil, List.append_nil, hostOps0]
  after_results
  pointwise
  rfl

theorem hbe0 (j : Fin 128) : V m c main_v15 (ix2 j 0) = (kargs m c).be0 (ix1 j) := by
  unfold V V0
  simp only [List.flatten_cons, List.flatten_nil, List.append_nil, hostOps0]
  after_results
  pointwise
  rfl

theorem hW1 (j k : Fin 128) : V m c main_v5 (ix2 j ⟨k.1, by omega⟩) = (kargs m c).W1 (ix2 k j) := by
  unfold V V0
  simp only [List.flatten_cons, List.flatten_nil, List.append_nil, hostOps0]
  after_results
  pointwise
  rfl

theorem hb1 (j : Fin 128) : V m c main_v5 (ix2 j 128) = (kargs m c).b1 (ix1 j) := by
  unfold V V0
  simp only [List.flatten_cons, List.flatten_nil, List.append_nil, hostOps0]
  after_results
  pointwise
  rfl

theorem hg1 (j : Fin 128) : V m c main_v16 (ix2 j 0) = (kargs m c).g1 (ix1 j) := by
  unfold V V0
  simp only [List.flatten_cons, List.flatten_nil, List.append_nil, hostOps0]
  after_results
  pointwise
  rfl

theorem hbe1 (j : Fin 128) : V m c main_v17 (ix2 j 0) = (kargs m c).be1 (ix1 j) := by
  unfold V V0
  simp only [List.flatten_cons, List.flatten_nil, List.append_nil, hostOps0]
  after_results
  pointwise
  rfl

theorem hWp (u : Fin 32) (q : ℕ) (hq : q < 25) (k : Fin 128) :
    V m c main_v12 (ix2 ⟨32 * q + u.1, by omega⟩ ⟨k.1, by omega⟩) = (kargs m c).Wp (ix2 k ⟨25 * u.1 + q, by omega⟩) := by
  unfold V V0
  simp only [List.flatten_cons, List.flatten_nil, List.append_nil, hostOps0]
  after_results
  pointwise
  have e : (32 * q + u.1) % 32 * 25 + (32 * q + u.1) / 32 = 25 * u.1 + q := by omega
  simp only [e]
  rfl

theorem hbp (u : Fin 32) (q : ℕ) (hq : q < 25) :
    V m c main_v12 (ix2 ⟨32 * q + u.1, by omega⟩ 128) = (kargs m c).bp (ix1 ⟨25 * u.1 + q, by omega⟩) := by
  unfold V V0
  simp only [List.flatten_cons, List.flatten_nil, List.append_nil, hostOps0]
  after_results
  pointwise
  have e : (32 * q + u.1) % 32 * 25 + (32 * q + u.1) / 32 = 25 * u.1 + q := by omega
  simp only [e]
  rfl

end

/-! ## The blocks -/

theorem idx : ∀ t : Fin cfg0.N, win0_0.index t = ![0, t.1] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.1] ∧ win0_10.index t = ![0, t.1] :=
  (by decide +kernel : ∀ t : Fin grid0.N, _)

/-- The sample that column `l` of block `t` is. -/
def at_ (t : Fin cfg0.N) (l : Fin 4096) : Fin 262144 := ⟨t.1 * 4096 + l.1, by
  have := t.2
  have e : cfg0.N = 64 := by decide
  omega⟩

section

variable {c : Dev nD} (hf : (kargs m c).Finite) (t : Fin cfg0.N)

include hf in
set_option maxHeartbeats 2000000 in
/-- A column of a block is a sample beside the weights. -/
theorem column (l : Fin 4096) : Column (kargs m c).weights ((kargs m c).sample (at_ t l)) l (iblk m c 0 t) (iblk m c 1 t)
    (iblk m c 2 t) (iblk m c 3 t) (iblk m c 4 t) (iblk m c 5 t) (iblk m c 6 t) (iblk m c 7 t) (iblk m c 8 t) where
  sample j := by
    have e : iblk m c 0 t (ix2 j l) = V m c main_v13 (ix2 j (at_ t l)) := by
      blk_ext [iblk, idx t, at_]
    rw [e, hx, hf.x]
  perm i j := by
    rw [← hperm m c i j]
    blk_ext [iblk, idx t]
  w0 j k := by
    rw [← hf.W0, ← hW0]
    blk_ext [iblk, idx t]
  b0 j := by
    rw [← hf.b0, ← hb0]
    blk_ext [iblk, idx t]
  g0 j := by
    rw [← hf.g0, ← hg0]
    blk_ext [iblk, idx t]
  be0 j := by
    rw [← hf.be0, ← hbe0]
    blk_ext [iblk, idx t]
  w1 j k := by
    rw [← hf.W1, ← hW1]
    blk_ext [iblk, idx t]
  b1 j := by
    rw [← hf.b1, ← hb1]
    blk_ext [iblk, idx t]
  g1 j := by
    rw [← hf.g1, ← hg1]
    blk_ext [iblk, idx t]
  be1 j := by
    rw [← hf.be1, ← hbe1]
    blk_ext [iblk, idx t]
  wp u q hq k := by
    rw [← hf.Wp, ← hWp m c u q hq]
    blk_ext [iblk, idx t]
  bp u q hq := by
    rw [← hf.bp, ← hbp m c u q hq]
    blk_ext [iblk, idx t]

end

section

variable {c : Dev nD} (hf : (kargs m c).Finite)
include hf

/-- The first array: the moved samples, a sample a column. -/
theorem arr9 : (dats m 0 c).arrAt 9 cfg0.N
    = fun i => ((outRow (kargs m c).weights ((kargs m c).sample (i 1)) (i 0) : ℝ) : EReal) := by
  refine (dats m 0 c).arrAt_eq_of_covers 9 _ (by decide +kernel) fun t _ y => ?_
  blk_simp
  rw [after0_9]
  frame_out
  idx_vars y
  have e0 : ((View.whole main_v18_0).slice (win0_9.rect t)).emb (ix2 y0 y1) = ix2 y0 (at_ t y1) := by
    blk_ext [idx t, at_]
  rw [e0]
  exact kresult0 (column m hf t y1) y0

/-- The second array: the log-determinants, in one row. -/
theorem arr10 : (dats m 0 c).arrAt 10 cfg0.N
    = fun i => ((∑ u, outLd (kargs m c).weights ((kargs m c).sample (i 1)) u : ℝ) : EReal) := by
  refine (dats m 0 c).arrAt_eq_of_covers 10 _ (by decide +kernel) fun t _ y => ?_
  blk_simp
  rw [after0_10]
  frame_out
  idx_vars y
  have e0 : ((View.whole main_v18_1).slice (win0_10.rect t)).emb (ix2 y0 y1) = ix2 y0 (at_ t y1) := by
    blk_ext [idx t, at_]
  obtain rfl : y0 = 0 := by omega
  rw [e0]
  exact kresult1 (column m hf t y1)

end

/-- The kernel's run, from arguments of real numbers. -/
theorem kernel_run (hf : ∀ c, (kargs m c).Finite) (ρ : Dev nD → PrngReg) :
    θ_run defs (onTc (τ := τ) (main (F := Ideal))) ⟨m, fun _ => 0, ρ⟩ (fun r => ∀ c : Dev nD,
      r.2.mem ((c.tc : Thread nD τ).loc main_v20) = (kargs m c).moved
      ∧ r.2.mem ((c.tc : Thread nD τ).loc main_v19) = (kargs m c).logdet
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  run_from run_main m ρ & unchanged m ρ
  · unfold Pipeline.afterTail₀
    simp only [List.flatten_cons, List.flatten_nil, List.append_nil, hostOps1]
    after_results
    have e := Pipeline.withArrays_arr (cfgs 0).spec (by decide) c (V0 m c) (fun w => (dats m 0 c).arrAt w (cfgs 0).N) 9
    refine (congrArg (fun A => transpose S262144x64 [1, 0] A transposes_S64x262144_S262144x64_1_0)
      (e.trans (arr9 m (hf c)))).trans ?_
    funext i
    idx_vars i
    pointwise
    rfl
  · unfold Pipeline.afterTail₀
    simp only [List.flatten_cons, List.flatten_nil, List.append_nil, hostOps1]
    after_results
    have e := Pipeline.withArrays_arr (cfgs 0).spec (by decide) c (V0 m c) (fun w => (dats m 0 c).arrAt w (cfgs 0).N) 10
    refine (congrArg (fun A => shapeCast S262144 A shapeCasts_S1x262144_S262144)
      (e.trans (arr10 m (hf c)))).trans ?_
    funext i
    idx_vars i
    pointwise
    rfl

end Cert.Flow

end
-- ==== Proof.Pre.lean ====
/- What the precondition says: every entry of every argument is a real number. -/
module

public import proofs.«01_k».proof.Defs
public import proofs.«01_k».proof.Proof.KRun
public import Idealize.ShloMosaic.Lib.StableHlo.Predicate

@[expose] public section

set_option maxRecDepth 16384

noncomputable section

namespace Cert.Flow

open Idealize.ShloMosaic Idealize.ShloMosaic.StableHlo

/-- The precondition's own shape relations. -/
theorem pre_facts : Cert.Pre_finite.Facts where
  bcast_S_S262144x64 := by decide
  bcast_S_S32x128 := by decide
  bcast_S_S128 := by decide
  bcast_S_S128x128 := by decide
  bcast_S_S128x800 := by decide
  bcast_S_S800 := by decide

/-- An array whose magnitudes all lie below infinity has real entries. -/
theorem reals_of {s : Shape} (h : (⟨0, ![]⟩ : Shape).BroadcastsInDim s ![]) (A : FVec Ideal s .f32)
    (e : cmpf .olt (Host.absf A) (broadcastInDim s ![] h (constant ⟨0, ![]⟩ .f32 0x7F800000#32)) = fun _ => 1#1) (i : s.Idx) :
    A i = (((A i).toReal : ℝ) : EReal) := by
  have k := congrFun e i
  have k' : BitVec.ofBool (decide (max (A i) (-(A i)) < Ideal.ofBits .f32 0x7F800000#32)) = 1#1 := k
  rw [Predicate.ofBool_eq_one_iff, decide_eq_true_eq, word_top] at k'
  exact (lift_real k').symm

/-- Under the precondition the kernel's arguments are real. -/
theorem kargs_finite (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) : (kargs m c).Finite := by
  obtain ⟨h0, h1, h2, h3, h4, h5, h6, h7, h8, h9, h10⟩ := h c
  exact
    { x := fun _ _ => reals_of _ _ h0 _
      W0 := fun _ _ => reals_of _ _ h1 _
      b0 := fun _ => reals_of _ _ h2 _
      g0 := fun _ => reals_of _ _ h3 _
      be0 := fun _ => reals_of _ _ h4 _
      W1 := fun _ _ => reals_of _ _ h5 _
      b1 := fun _ => reals_of _ _ h6 _
      g1 := fun _ => reals_of _ _ h7 _
      be1 := fun _ => reals_of _ _ h8 _
      Wp := fun _ _ => reals_of _ _ h9 _
      bp := fun _ => reals_of _ _ h10 _ }

end Cert.Flow

end
-- ==== Proof.RNet.lean ====
/- The network of the reference at one sample: from the arguments to the raw parameters. -/
module

public import proofs.«01_k».proof.Proof.Gen.ReferenceIdeal.Run
public import proofs.«01_k».proof.Proof.Data
public import Idealize.ShloMosaic.Lib.Pointwise

@[expose] public section

set_option maxRecDepth 16384

noncomputable section

namespace Cert.Flow

open Idealize.ShloMosaic Idealize.ShloMosaic.StableHlo Cert.ReferenceIdeal Cert.ReferenceIdeal.Gen Cert.ReferenceIdeal.Value

/-- A layer norm as the reference spells it, on reals. -/
theorem rnorm (p g be : Fin 128 → ℝ) (j : Fin 128) :
    max (((p j : EReal) - Ideal.div (∑ x, (p x : EReal)) ((128 : ℝ) : EReal))
        * Ideal.rsqrt (Ideal.div (∑ x, ((p x : EReal) - Ideal.div (∑ x, (p x : EReal)) ((128 : ℝ) : EReal))
              * ((p x : EReal) - Ideal.div (∑ x, (p x : EReal)) ((128 : ℝ) : EReal))) ((128 : ℝ) : EReal) + (eps : EReal))
        * (g j : EReal) + (be j : EReal)) 0 = ((norm g be p j : ℝ) : EReal) := by
  have m : Ideal.div (∑ x, (p x : EReal)) ((128 : ℝ) : EReal) = ((mean p : ℝ) : EReal) := by
    rw [esum, ediv (by norm_num)]
    rfl
  have v : Ideal.div (∑ x, (((p x - mean p) * (p x - mean p) : ℝ) : EReal)) ((128 : ℝ) : EReal) = ((var p : ℝ) : EReal) := by
    rw [esum, ediv (by norm_num)]
    rfl
  rw [m]
  simp only [← EReal.coe_sub, ← EReal.coe_mul]
  rw [v, ← EReal.coe_add, ersqrt (var_eps p), ← EReal.coe_mul, ← EReal.coe_mul, ← EReal.coe_add, ← EReal.coe_zero, emax]
  rfl

variable (V : Valuation τ sig (Elt Ideal))

/-- The reference's arguments. -/
def rargs : Args where
  x := V (Proc.devRef .tc main_arg0)
  W0 := V (Proc.devRef .tc main_arg1)
  b0 := V (Proc.devRef .tc main_arg2)
  g0 := V (Proc.devRef .tc main_arg3)
  be0 := V (Proc.devRef .tc main_arg4)
  W1 := V (Proc.devRef .tc main_arg5)
  b1 := V (Proc.devRef .tc main_arg6)
  g1 := V (Proc.devRef .tc main_arg7)
  be1 := V (Proc.devRef .tc main_arg8)
  Wp := V (Proc.devRef .tc main_arg9)
  bp := V (Proc.devRef .tc main_arg10)

variable {V} (hf : (rargs V).Finite) (b : Fin 262144)
include hf

theorem rx (u : Fin 32) : res_main_v0 V (ix2 b u) = ((evens ((rargs V).sample b) u : ℝ) : EReal) := by
  refine Eq.trans ?_ (hf.x b _)
  unfold res_main_v0
  pointwise
  rfl

theorem rodd (u : Fin 32) : res_main_v1 V (ix2 b u) = ((odds ((rargs V).sample b) u : ℝ) : EReal) := by
  refine Eq.trans ?_ (hf.x b _)
  unfold res_main_v1
  pointwise
  exact congrArg (fun i => V (Proc.devRef .tc main_arg0) (ix2 b i)) (Fin.ext (by simp only; omega))

theorem rlin0 (j : Fin 128) :
    res_main_v5 V (ix2 b j) = ((lin0 (rargs V).weights (evens ((rargs V).sample b)) j : ℝ) : EReal) := by
  have hW (k j) : V (Proc.devRef .tc main_arg1) (ix2 k j) = (((rargs V).weights.W0 k j : ℝ) : EReal) := hf.W0 k j
  have hb (j) : V (Proc.devRef .tc main_arg2) (ix1 j) = (((rargs V).weights.b0 j : ℝ) : EReal) := hf.b0 j
  pointwise [res_main_v5]
  simp only [rx hf, hW, hb, ← EReal.coe_mul, esum, ← EReal.coe_add]
  rfl

theorem rhid (j : Fin 128) :
    res_main_v30 V (ix2 b j) = ((hid (rargs V).weights (evens ((rargs V).sample b)) j : ℝ) : EReal) := by
  have hg (j) : V (Proc.devRef .tc main_arg3) (ix1 j) = (((rargs V).weights.g0 j : ℝ) : EReal) := hf.g0 j
  have hb (j) : V (Proc.devRef .tc main_arg4) (ix1 j) = (((rargs V).weights.be0 j : ℝ) : EReal) := hf.be0 j
  pointwise [res_main_v30, res_main_v11, res_main_v9]
  simp only [rlin0 hf, hg, hb, word_128, word_eps]
  exact rnorm _ _ _ _

theorem rlin1 (j : Fin 128) :
    res_main_v34 V (ix2 b j) = ((lin1 (rargs V).weights (evens ((rargs V).sample b)) j : ℝ) : EReal) := by
  have hW (k j) : V (Proc.devRef .tc main_arg5) (ix2 k j) = (((rargs V).weights.W1 k j : ℝ) : EReal) := hf.W1 k j
  have hb (j) : V (Proc.devRef .tc main_arg6) (ix1 j) = (((rargs V).weights.b1 j : ℝ) : EReal) := hf.b1 j
  pointwise [res_main_v34]
  simp only [rhid hf, hW, hb, ← EReal.coe_mul, esum, ← EReal.coe_add]
  rfl

theorem rraw (u : Fin 32) (q : ℕ) (hq : q < 25) :
    res_main_v65 V (ix3 b u ⟨q, hq⟩) = ((rawAt (rargs V).weights (evens ((rargs V).sample b)) u q : ℝ) : EReal) := by
  have hg (j) : V (Proc.devRef .tc main_arg7) (ix1 j) = (((rargs V).weights.g1 j : ℝ) : EReal) := hf.g1 j
  have hb (j) : V (Proc.devRef .tc main_arg8) (ix1 j) = (((rargs V).weights.be1 j : ℝ) : EReal) := hf.be1 j
  have hW (k j) : V (Proc.devRef .tc main_arg9) (ix2 k j) = (((rargs V).weights.Wp k j : ℝ) : EReal) := hf.Wp k j
  have hp (j) : V (Proc.devRef .tc main_arg10) (ix1 j) = (((rargs V).weights.bp j : ℝ) : EReal) := hf.bp j
  rw [rawAt_eq _ _ _ _ (by omega)]
  pointwise [res_main_v65, res_main_v40, res_main_v38]
  simp only [rlin1 hf, rhid hf, hg, hb, hW, hp, word_128, word_eps]
  simp only [rnorm]
  simp only [← EReal.coe_add, ← EReal.coe_mul, esum, mul_comm u.1 25]
  rfl

end Cert.Flow

end
-- ==== Proof.RTools.lean ====
/- Four operations of the reference at an index: an entry taken along the last axis by a word, the bounds of that word,
   a count along the last axis, a running sum along it. -/
module

public import proofs.«01_k».proof.Proof.Gen.ReferenceIdeal
public import proofs.«01_k».proof.Proof.Reals
public import Idealize.ShloMosaic.Lib.Pointwise
public import Idealize.ShloMosaic.Lib.StableHlo.Predicate

@[expose] public section

set_option maxRecDepth 16384

noncomputable section

namespace Cert.Flow

open Idealize.ShloMosaic Idealize.ShloMosaic.StableHlo Cert.ReferenceIdeal Cert.ReferenceIdeal.Gen

section Take

variable {α : Type} {B U n : ℕ}

/-- The entry that the word at `(b, u)` names on the last axis, the word brought into the axis. -/
theorem gather_last (d : GatherDims ⟨3, ![B, U, n]⟩ ⟨4, ![B, U, 1, 1]⟩ ⟨3, ![B, U, 1]⟩) (h0 : d.offsetDims = [])
    (h1 : d.collapsedSliceDims = [2]) (h2 : d.operandBatchingDims = [0, 1]) (h3 : d.startIndicesBatchingDims = [0, 1])
    (h4 : d.startIndexMap = [2]) (h5 : d.indexVectorDim = 3) (h6 : d.sliceSizes = ![1, 1, 1])
    (x : (⟨3, ![B, U, n]⟩ : Shape).Idx → α) (i : IVec ⟨4, ![B, U, 1, 1]⟩ 32) (b : Fin B) (u : Fin U) (k : ℕ) (hk : k < n)
    (hi : (i (ix4 b u 0 0)).toInt = k) : Host.gather d x i (ix3 b u 0) = x (ix3 b u ⟨k, hk⟩) := by
  obtain ⟨o, c, ob, sb, sm, iv, sz, wf⟩ := d
  simp only at h0 h1 h2 h3 h4 h5 h6
  subst h0 h1 h2 h3 h4 h5 h6
  unfold Host.gather
  congr 1
  funext a
  apply Fin.ext
  match a with
  | ⟨0, _⟩ =>
    show 0 + b.1 + 0 = b.1
    omega
  | ⟨1, _⟩ =>
    show 0 + u.1 + 0 = u.1
    omega
  | ⟨2, _⟩ =>
    show min (i _).toInt.toNat (n - 1) + 0 + 0 = k
    have e : ∀ j : (⟨4, ![B, U, 1, 1]⟩ : Shape).Idx, j = ix4 b u 0 0 → min (i j).toInt.toNat (n - 1) + 0 + 0 = k := by
      rintro j rfl
      rw [hi]
      omega
    refine e _ ?_
    funext b
    match b with
    | ⟨0, _⟩ => rfl
    | ⟨1, _⟩ => rfl
    | ⟨2, _⟩ => rfl
    | ⟨3, _⟩ => rfl

/-- A fold of `and` along an axis of one place is the bit there. -/
theorem and_last (h : (⟨4, ![B, U, 1, 1]⟩ : Shape).ReducesTo [3] ⟨3, ![B, U, 1]⟩) {z : Shape} (hz : 0 < z.numel)
    (x : IVec ⟨4, ![B, U, 1, 1]⟩ 1) (b : Fin B) (u : Fin U) :
    Host.reduce IntOp.andi x (constantI z 1 1#1) h hz (ix3 b u 0) = x (ix4 b u 0 0) := by
  rw [Host.reduce_eq_fold]
  have e : (Finset.univ.filter fun i => h.drop i = ix3 b u 0) = {ix4 b u 0 0} := by
    ext i
    simp only [Finset.mem_filter, Finset.mem_univ, true_and, Finset.mem_singleton]
    have v0 : (h.drop i 0 : ℕ) = i 0 := Shape.ReducesTo.drop_apply_val h i 0
    have v1 : (h.drop i 1 : ℕ) = i 1 := Shape.ReducesTo.drop_apply_val h i 1
    constructor
    · intro e
      rw [e] at v0 v1
      funext a
      match a with
      | ⟨0, _⟩ => exact Fin.ext v0.symm
      | ⟨1, _⟩ => exact Fin.ext v1.symm
      | ⟨2, _⟩ => exact Subsingleton.elim (α := Fin 1) _ _
      | ⟨3, _⟩ => exact Subsingleton.elim (α := Fin 1) _ _
    · rintro rfl
      funext a
      match a with
      | ⟨0, _⟩ => exact Fin.ext v0
      | ⟨1, _⟩ => exact Fin.ext v1
      | ⟨2, _⟩ => exact Subsingleton.elim (α := Fin 1) _ _
  rw [e, Finset.fold_singleton]
  show x (ix4 b u 0 0) &&& 1#1 = _
  generalize x (ix4 b u 0 0) = w
  revert w
  decide

/-- An index drops to `(b, u)` when it is one of theirs along the last axis. -/
theorem drop_last (h : (⟨3, ![B, U, n]⟩ : Shape).ReducesTo [2] ⟨2, ![B, U]⟩) (b : Fin B) (u : Fin U)
    (i : (⟨3, ![B, U, n]⟩ : Shape).Idx) : h.drop i = ix2 b u ↔ i = ix3 b u (i 2) := by
  have v0 : (h.drop i 0 : ℕ) = i 0 := Shape.ReducesTo.drop_apply_val h i 0
  have v1 : (h.drop i 1 : ℕ) = i 1 := Shape.ReducesTo.drop_apply_val h i 1
  constructor
  · intro e
    rw [e] at v0 v1
    funext a
    match a with
    | ⟨0, _⟩ => exact Fin.ext v0.symm
    | ⟨1, _⟩ => exact Fin.ext v1.symm
    | ⟨2, _⟩ => rfl
  · intro e
    rw [e] at v0 v1 ⊢
    funext a
    match a with
    | ⟨0, _⟩ => exact Fin.ext v0
    | ⟨1, _⟩ => exact Fin.ext v1

/-- The greatest of finitely many reals, from −∞ on: a real, if there are any. -/
theorem fold_max {ι : Type} (S : Finset ι) (x : ι → EReal) (hx : ∀ i ∈ S, ∃ r : ℝ, x i = (r : EReal)) :
    (S = ∅ ∧ S.fold max ⊥ x = ⊥) ∨ ∃ m : ℝ, S.fold max ⊥ x = (m : EReal) := by
  classical
  induction S using Finset.cons_induction with
  | empty => exact .inl ⟨rfl, rfl⟩
  | cons a S ha ih =>
    right
    obtain ⟨r, hr⟩ := hx a (Finset.mem_cons_self _ _)
    rw [Finset.fold_cons, hr]
    rcases ih fun i hi => hx i (Finset.mem_cons.mpr (.inr hi)) with ⟨_, e⟩ | ⟨m, e⟩
    · exact ⟨r, by rw [e, max_eq_left bot_le]⟩
    · exact ⟨max r m, by rw [e, emax]⟩

/-- The greatest along the last axis is a real where all are. -/
theorem max_last (h : (⟨3, ![B, U, n]⟩ : Shape).ReducesTo [2] ⟨2, ![B, U]⟩) {z : Shape} (hz : 0 < z.numel) (hn : 0 < n)
    (x : FVec Ideal ⟨3, ![B, U, n]⟩ .f32) (b : Fin B) (u : Fin U) (hx : ∀ k, ∃ r : ℝ, x (ix3 b u k) = (r : EReal)) :
    ∃ m : ℝ, Host.reduce FloatOps.maximumf x (constant z .f32 0xFF800000#32) h hz (ix2 b u) = (m : EReal) := by
  rw [Host.reduce_eq_fold]
  have e : (constant (F := Ideal) z .f32 0xFF800000#32) (Shape.Idx.first hz) = (⊥ : EReal) := word_bot
  rw [e]
  rcases fold_max (Finset.univ.filter fun i => h.drop i = ix2 b u) x (fun i hi => by
    have := (drop_last h b u i).1 (Finset.mem_filter.1 hi).2
    rw [this]
    exact hx _) with ⟨hS, _⟩ | ⟨m, hm⟩
  · have : ix3 b u (⟨0, hn⟩ : Fin n) ∈ (Finset.univ.filter fun i => h.drop i = ix2 b u) :=
      Finset.mem_filter.2 ⟨Finset.mem_univ _, (drop_last h b u _).2 rfl⟩
    rw [hS] at this
    exact absurd this (Finset.notMem_empty _)
  · exact ⟨m, hm⟩

/-- A count along the last axis. -/
theorem count_last (h : (⟨3, ![B, U, n]⟩ : Shape).ReducesTo [2] ⟨2, ![B, U]⟩) {z : Shape} (hz : 0 < z.numel) (hw : 1 < 32)
    (hn : n < 2 ^ 32) (x : IVec ⟨3, ![B, U, n]⟩ 1) (b : Fin B) (u : Fin U) :
    (Host.reduce IntOp.addi (extui 32 x hw) (constantI z 32 0#32) h hz (ix2 b u)).toNat
      = ∑ k : Fin n, if x (ix3 b u k) = 1#1 then 1 else 0 := by
  rw [Host.reduce_eq_fold]
  have hd := drop_last h b u
  have hs : ∑ i ∈ Finset.univ.filter (fun i => h.drop i = ix2 b u), (extui 32 x hw i).toNat
      = ∑ k : Fin n, if x (ix3 b u k) = 1#1 then 1 else 0 := by
    refine Finset.sum_bij' (fun i _ => i 2) (fun k _ => ix3 b u k) (fun _ _ => Finset.mem_univ _)
      (fun k _ => Finset.mem_filter.2 ⟨Finset.mem_univ _, (hd _).2 rfl⟩)
      (fun i hi => ((hd i).1 (Finset.mem_filter.1 hi).2).symm) (fun _ _ => rfl) ?_
    intro i hi
    refine (Predicate.toNat_setWidth_bit (x i)).trans ?_
    exact congrArg (fun i => if x i = 1#1 then 1 else 0) ((hd i).1 (Finset.mem_filter.1 hi).2)
  show (Finset.fold IntOp.addi 0#32 (extui 32 x hw) (Finset.univ.filter fun i => h.drop i = ix2 b u)).toNat = _
  rw [Predicate.toNat_fold_addi _ _ (by
    rw [hs]
    refine lt_of_le_of_lt (Finset.sum_le_card_nsmul _ _ 1 fun k _ => ?_) (by simpa using hn)
    split_ifs <;> omega), hs]

end Take

/-- A fold over all the numbers below `n` is a sum. -/
theorem foldl_sum (n : ℕ) (g : Fin n → EReal) : (List.finRange n).foldl (fun r k => r + g k) 0 = ∑ k, g k := by
  rw [← List.foldl_map (f := g) (g := fun r k => r + k), ← List.sum_eq_foldl, ← List.ofFn_eq_map, List.sum_ofFn]

/-- A running sum along the last axis. -/
theorem running (x : FVec Ideal S262144x32x8 .f32) (z : FVec Ideal S_ .f32) (hz : z (Shape.Idx.first h_S_) = (0 : EReal))
    (b : Fin 262144) (u : Fin 32) (k : ℕ) (hk : k < 8) :
    Host.reduceWindowAdd ![1, 1, 8] ![1, 1, 1] ![0, 0, 7] ![0, 0, 0] x z
      reduceWindows_S262144x32x8_S262144x32x8_w1s1p0_0_w1s1p0_0_w8s1p7_0 h_S_ (ix3 b u ⟨k, hk⟩)
      = (∑ i ∈ Finset.range (k + 1), if h : i < 8 then x (ix3 b u ⟨i, h⟩) else 0 : EReal) := by
  have hn (n : Fin (⟨3, ![1, 1, 8]⟩ : Shape).numel) :
      ((((⟨3, ![1, 1, 8]⟩ : Shape).rowMajor.symm n) 0).1 = 0 ∧ (((⟨3, ![1, 1, 8]⟩ : Shape).rowMajor.symm n) 1).1 = 0)
        ∧ (((⟨3, ![1, 1, 8]⟩ : Shape).rowMajor.symm n) 2).1 = n.1 := by
    have e := Shape.rowMajor_val_three ((⟨3, ![1, 1, 8]⟩ : Shape).rowMajor.symm n)
    have e0 : (((⟨3, ![1, 1, 8]⟩ : Shape).rowMajor.symm n) 0).1 < 1 := Fin.isLt _
    have e1 : (((⟨3, ![1, 1, 8]⟩ : Shape).rowMajor.symm n) 1).1 < 1 := Fin.isLt _
    rw [Equiv.apply_symm_apply] at e
    have e0' : (((⟨3, ![1, 1, 8]⟩ : Shape).rowMajor.symm n) 0).1 = 0 := by omega
    have e1' : (((⟨3, ![1, 1, 8]⟩ : Shape).rowMajor.symm n) 1).1 = 0 := by omega
    rw [e0', e1'] at e
    exact ⟨⟨e0', e1'⟩, by simpa using e.symm⟩
  have et (n : Fin (⟨3, ![1, 1, 8]⟩ : Shape).numel) :
      (if hin : ∀ a, (![0, 0, 7] : Fin 3 → ℕ) a ≤ (ix3 b u (⟨k, hk⟩ : Fin 8) a).1 * (![1, 1, 1] : Fin 3 → ℕ) a
          + ((⟨3, ![1, 1, 8]⟩ : Shape).rowMajor.symm n a).1
          ∧ (ix3 b u (⟨k, hk⟩ : Fin 8) a).1 * (![1, 1, 1] : Fin 3 → ℕ) a
          + ((⟨3, ![1, 1, 8]⟩ : Shape).rowMajor.symm n a).1 - (![0, 0, 7] : Fin 3 → ℕ) a < S262144x32x8.size a
        then x (fun a => ⟨(ix3 b u (⟨k, hk⟩ : Fin 8) a).1 * (![1, 1, 1] : Fin 3 → ℕ) a
          + ((⟨3, ![1, 1, 8]⟩ : Shape).rowMajor.symm n a).1 - (![0, 0, 7] : Fin 3 → ℕ) a, (hin a).2⟩) else (0 : EReal))
      = if 7 ≤ k + n.1 then (if h : k + n.1 - 7 < 8 then x (ix3 b u ⟨k + n.1 - 7, h⟩) else 0) else 0 := by
    obtain ⟨⟨e0, e1⟩, e2⟩ := hn n
    have hn8 : n.1 < 8 := n.2
    by_cases h7 : 7 ≤ k + n.1
    · rw [if_pos h7, dif_pos (show k + n.1 - 7 < 8 by omega), dif_pos]
      · congr 1
        funext a
        apply Fin.ext
        match a with
        | ⟨0, _⟩ =>
          show b.1 * 1 + _ - 0 = b.1
          rw [show (((⟨3, ![1, 1, 8]⟩ : Shape).rowMajor.symm n) ⟨0, _⟩).1 = 0 from e0]
          omega
        | ⟨1, _⟩ =>
          show u.1 * 1 + _ - 0 = u.1
          rw [show (((⟨3, ![1, 1, 8]⟩ : Shape).rowMajor.symm n) ⟨1, _⟩).1 = 0 from e1]
          omega
        | ⟨2, _⟩ =>
          show k * 1 + _ - 7 = k + n.1 - 7
          rw [show (((⟨3, ![1, 1, 8]⟩ : Shape).rowMajor.symm n) ⟨2, _⟩).1 = n.1 from e2]
          omega
      · intro a
        match a with
        | ⟨0, _⟩ =>
          show 0 ≤ b.1 * 1 + _ ∧ b.1 * 1 + _ - 0 < 262144
          rw [show (((⟨3, ![1, 1, 8]⟩ : Shape).rowMajor.symm n) ⟨0, _⟩).1 = 0 from e0]
          omega
        | ⟨1, _⟩ =>
          show 0 ≤ u.1 * 1 + _ ∧ u.1 * 1 + _ - 0 < 32
          rw [show (((⟨3, ![1, 1, 8]⟩ : Shape).rowMajor.symm n) ⟨1, _⟩).1 = 0 from e1]
          omega
        | ⟨2, _⟩ =>
          show 7 ≤ k * 1 + _ ∧ k * 1 + _ - 7 < 8
          rw [show (((⟨3, ![1, 1, 8]⟩ : Shape).rowMajor.symm n) ⟨2, _⟩).1 = n.1 from e2]
          omega
    · rw [if_neg h7, dif_neg]
      intro hin
      have h := (hin 2).1
      refine h7 ?_
      have h' : 7 ≤ k * 1 + ((⟨3, ![1, 1, 8]⟩ : Shape).rowMajor.symm n 2).1 := h
      rw [e2] at h'
      omega
  have eu : Host.reduceWindowAdd ![1, 1, 8] ![1, 1, 1] ![0, 0, 7] ![0, 0, 0] x z
      reduceWindows_S262144x32x8_S262144x32x8_w1s1p0_0_w1s1p0_0_w8s1p7_0 h_S_ (ix3 b u ⟨k, hk⟩)
      = ∑ n : Fin (⟨3, ![1, 1, 8]⟩ : Shape).numel,
        (if 7 ≤ k + n.1 then (if h : k + n.1 - 7 < 8 then x (ix3 b u ⟨k + n.1 - 7, h⟩) else 0) else 0 : EReal) := by
    rw [← foldl_sum]
    show Host.reduceWindow (· + ·) ![1, 1, 8] ![1, 1, 1] ![0, 0, 7] ![0, 0, 0] x (fun _ : S_.Idx => z (Shape.Idx.first h_S_))
      reduceWindows_S262144x32x8_S262144x32x8_w1s1p0_0_w1s1p0_0_w8s1p7_0 h_S_ (ix3 b u ⟨k, hk⟩) = _
    rw [hz]
    unfold Host.reduceWindow
    refine congrArg (fun f => List.foldl f (0 : EReal) (List.finRange (⟨3, ![1, 1, 8]⟩ : Shape).numel))
      (funext fun r => funext fun n => congrArg (fun v : EReal => r + v) (Eq.trans ?_ (et n)))
    split_ifs with h1 h2 h2
    · rfl
    · exact absurd h1 h2
    · exact absurd h2 h1
    · rfl
  rw [eu]
  show ∑ n : Fin 8, (if 7 ≤ k + n.1 then (if h : k + n.1 - 7 < 8 then x (ix3 b u ⟨k + n.1 - 7, h⟩) else 0) else 0 : EReal) = _
  generalize hG : (fun i : ℕ => (if h : i < 8 then x (ix3 b u ⟨i, h⟩) else 0 : EReal)) = G
  have e1 (i : ℕ) : (if h : i < 8 then x (ix3 b u ⟨i, h⟩) else 0 : EReal) = G i := congrFun hG i
  simp only [e1]
  interval_cases k <;> simp [Fin.sum_univ_eight, Finset.sum_range_succ]

section Along

variable (k : ℕ) (b : Fin 262144) (u : Fin 32)

/-- The word that names an entry, after the words below zero have been moved up: one that is not negative stays. -/
theorem word_stays (i : IVec S262144x32x1 32) (N : BitVec 32) (hk : k ≤ 8) (hi : i (ix3 b u 0) = BitVec.ofNat 32 k) :
    shapeCast S262144x32x1x1 (select (cmpi .slt i (broadcastInDim S262144x32x1 ![] bcast_S_S262144x32x1 (constantI S_ 32 0#32)))
      (addi i (broadcastInDim S262144x32x1 ![] bcast_S_S262144x32x1 (constantI S_ 32 N))) i)
      shapeCasts_S262144x32x1_S262144x32x1x1 (ix4 b u 0 0) = BitVec.ofNat 32 k := by
  pointwise
  rw [hi]
  interval_cases k <;> rfl

/-- Eight entries: the one that the word names. -/
theorem take8 (hk : k < 8) (x : FVec Ideal S262144x32x8 .f32) (i : IVec S262144x32x1x1 32)
    (hi : i (ix4 b u 0 0) = BitVec.ofNat 32 k) :
    shapeCast S262144x32 (select (Host.reduce IntOp.andi (andi
        (cmpi .sge i (broadcastInDim S262144x32x1x1 ![] bcast_S_S262144x32x1x1 (constantI S_ 32 0#32)))
        (cmpi .sle i (broadcastInDim S262144x32x1x1 ![0, 1, 2, 3] bcast_S1x1x1x1_S262144x32x1x1_0_1_2_3
          (broadcastInDim S1x1x1x1 ![3] bcast_S1_S1x1x1x1_3 (constantI S1 32 7#32)))))
        (constantI S_ 1 1#1) reducesTo_S262144x32x1x1_S262144x32x1_d3 h_S_)
      (Host.gather gather_S262144x32x8_S262144x32x1x1_S262144x32x1_n_2_01_01_2_3_111 x i)
      (broadcastInDim S262144x32x1 ![] bcast_S_S262144x32x1 (constant (F := Ideal) S_ .f32 0x7FC00000#32)))
      shapeCasts_S262144x32x1_S262144x32 (ix2 b u) = x (ix3 b u ⟨k, hk⟩) := by
  have eg := gather_last gather_S262144x32x8_S262144x32x1x1_S262144x32x1_n_2_01_01_2_3_111 rfl rfl rfl rfl rfl rfl rfl x i b u k hk
    (by rw [hi]; exact Predicate.toInt_ofNat_small _ (by omega))
  have er := (and_last reducesTo_S262144x32x1x1_S262144x32x1_d3 h_S_ (andi
        (cmpi .sge i (broadcastInDim S262144x32x1x1 ![] bcast_S_S262144x32x1x1 (constantI S_ 32 0#32)))
        (cmpi .sle i (broadcastInDim S262144x32x1x1 ![0, 1, 2, 3] bcast_S1x1x1x1_S262144x32x1x1_0_1_2_3
          (broadcastInDim S1x1x1x1 ![3] bcast_S1_S1x1x1x1_3 (constantI S1 32 7#32))))) b u).trans
    (show _ = 1#1 by
      pointwise
      rw [hi]
      interval_cases k <;> rfl)
  generalize Host.reduce IntOp.andi _ _ _ _ = R at er ⊢
  generalize Host.gather _ x i = G at eg ⊢
  pointwise
  rw [er, eg]
  rfl

/-- Nine entries: the one that the word names. -/
theorem take9 (hk : k < 9) (x : FVec Ideal S262144x32x9 .f32) (i : IVec S262144x32x1x1 32)
    (hi : i (ix4 b u 0 0) = BitVec.ofNat 32 k) :
    shapeCast S262144x32 (select (Host.reduce IntOp.andi (andi
        (cmpi .sge i (broadcastInDim S262144x32x1x1 ![] bcast_S_S262144x32x1x1 (constantI S_ 32 0#32)))
        (cmpi .sle i (broadcastInDim S262144x32x1x1 ![0, 1, 2, 3] bcast_S1x1x1x1_S262144x32x1x1_0_1_2_3
          (broadcastInDim S1x1x1x1 ![3] bcast_S1_S1x1x1x1_3 (constantI S1 32 8#32)))))
        (constantI S_ 1 1#1) reducesTo_S262144x32x1x1_S262144x32x1_d3 h_S_)
      (Host.gather gather_S262144x32x9_S262144x32x1x1_S262144x32x1_n_2_01_01_2_3_111 x i)
      (broadcastInDim S262144x32x1 ![] bcast_S_S262144x32x1 (constant (F := Ideal) S_ .f32 0x7FC00000#32)))
      shapeCasts_S262144x32x1_S262144x32 (ix2 b u) = x (ix3 b u ⟨k, hk⟩) := by
  have eg := gather_last gather_S262144x32x9_S262144x32x1x1_S262144x32x1_n_2_01_01_2_3_111 rfl rfl rfl rfl rfl rfl rfl x i b u k hk
    (by rw [hi]; exact Predicate.toInt_ofNat_small _ (by omega))
  have er := (and_last reducesTo_S262144x32x1x1_S262144x32x1_d3 h_S_ (andi
        (cmpi .sge i (broadcastInDim S262144x32x1x1 ![] bcast_S_S262144x32x1x1 (constantI S_ 32 0#32)))
        (cmpi .sle i (broadcastInDim S262144x32x1x1 ![0, 1, 2, 3] bcast_S1x1x1x1_S262144x32x1x1_0_1_2_3
          (broadcastInDim S1x1x1x1 ![3] bcast_S1_S1x1x1x1_3 (constantI S1 32 8#32))))) b u).trans
    (show _ = 1#1 by
      pointwise
      rw [hi]
      interval_cases k <;> rfl)
  generalize Host.reduce IntOp.andi _ _ _ _ = R at er ⊢
  generalize Host.gather _ x i = G at eg ⊢
  pointwise
  rw [er, eg]
  rfl

end Along

end Cert.Flow

end
-- ==== Proof.RSpline.lean ====
/- The spline of the reference at one sample and one odd dimension. -/
module

public import proofs.«01_k».proof.Proof.RNet
public import proofs.«01_k».proof.Proof.RTools
public import proofs.«01_k».proof.Proof.KSpline

@[expose] public section

set_option maxRecDepth 16384

noncomputable section

namespace Cert.Flow

open Idealize.ShloMosaic Idealize.ShloMosaic.StableHlo Cert.ReferenceIdeal Cert.ReferenceIdeal.Gen Cert.ReferenceIdeal.Value

/-! ## On reals -/

/-- A size as the reference spells it: the exponentials divided by their sum are those of the numbers moved down
    together. -/
theorem rsize (a : ℕ → ℝ) (m : ℝ) (k : ℕ) :
    (Ideal.div 1 ((1000 : ℝ) : EReal) + (1 - Ideal.div 1 ((1000 : ℝ) : EReal) * ((8 : ℝ) : EReal))
        * Ideal.div ((Real.exp (a k - m) : ℝ) : EReal) (∑ q : Fin 8, ((Real.exp (a q.1 - m) : ℝ) : EReal))) * ((6 : ℝ) : EReal)
      = ((size a k : ℝ) : EReal) := by
  have hs : ∑ q : Fin 8, Real.exp (a q.1 - m) = expSum a * Real.exp (-m) := by
    rw [expSum, Finset.sum_mul, Finset.sum_range]
    exact Finset.sum_congr rfl fun q _ => by rw [sub_eq_add_neg, Real.exp_add]
  have h0 := (expSum_pos a).ne'
  have h1 := (Real.exp_pos (-m)).ne'
  rw [esum, hs, ediv (mul_ne_zero h0 h1), ← EReal.coe_one, ediv (by norm_num), ← EReal.coe_mul, ← EReal.coe_sub,
    ← EReal.coe_mul, ← EReal.coe_add, ← EReal.coe_mul]
  congr 1
  rw [size, sub_eq_add_neg (a k) m, Real.exp_add]
  field_simp
  ring

/-- A softplus and the least slope, as the reference spells them. -/
theorem rslope (v : ℝ) :
    max (v : EReal) 0 + Ideal.log1p (Ideal.exp (-max (v : EReal) (-(v : EReal)))) + (least : EReal)
      = ((slope v : ℝ) : EReal) := by
  rw [← kslope, zero_sub]
  rfl

/-- Edges rise. -/
theorem edge_mono (a : ℕ → ℝ) : StrictMono (edge a) := strictMono_nat_of_lt_succ (edge_lt a)

theorem bin_lt (e : ℕ → ℝ) (x : ℝ) (h : bin e x < 7) : x < e (bin e x + 1) := by
  revert h
  unfold bin
  split_ifs <;> intro h <;> first | omega | exact not_le.mp (by assumption)

/-- How many of the nine edges a number has reached: one more than its bin, and one more again at the end. -/
theorem edges_reached (a : ℕ → ℝ) (v : ℝ) (N : ℕ)
    (hN : N = ∑ k : Fin 9, if edge a k.1 ≤ clamp v then 1 else 0) :
    N = bin (edge a) (clamp v) + 1 ∨ (N = 9 ∧ bin (edge a) (clamp v) = 7) := by
  have hb := bin_le (edge a) (clamp v)
  have hl := (bin_spec a v).1
  have hr := bin_lt (edge a) (clamp v)
  have h8 : clamp v ≤ edge a 8 := by rw [edge_last]; exact clamp_hi v
  generalize bin (edge a) (clamp v) = j at *
  have key : ∀ i ≤ 8, edge a i ≤ clamp v → (i = 8 ∨ clamp v < edge a (i + 1)) → N = i + 1 := by
    intro i hi h1 h2
    have e : ∀ k : Fin 9, edge a k.1 ≤ clamp v ↔ k.1 ≤ i := by
      intro k
      constructor
      · intro h
        rcases h2 with rfl | h2
        · omega
        · exact Nat.lt_succ_iff.mp ((edge_mono a).lt_iff_lt.mp (lt_of_le_of_lt h h2))
      · intro h
        exact ((edge_mono a).monotone h).trans h1
    simp only [e] at hN
    rw [hN]
    interval_cases i <;> rfl
  rcases Nat.lt_or_ge j 7 with h | h
  · exact .inl (key j (by omega) hl (.inr (hr h)))
  · obtain rfl : j = 7 := by omega
    rcases eq_or_lt_of_le h8 with h | h
    · exact .inr ⟨key 8 le_rfl h.ge (.inl rfl), rfl⟩
    · exact .inl (key 7 (by norm_num) hl (.inr h))

/-! ## At a sample -/

variable {V : Valuation τ sig (Elt Ideal)} (hf : (rargs V).Finite) (b : Fin 262144) (u : Fin 32)

/-- The sizes of the eight bins, from the raw numbers. -/
def rsizes (E : FVec Ideal S262144x32x8 .f32) : FVec Ideal S262144x32x8 .f32 :=
  mulf (addf (broadcastInDim S262144x32x8 ![] bcast_S_S262144x32x8 (Host.divf (constant S_ .f32 0x3F800000#32) (constant S_ .f32 0x447A0000#32))) (mulf (broadcastInDim S262144x32x8 ![] bcast_S_S262144x32x8 (subf (constant S_ .f32 0x3F800000#32) (mulf (Host.divf (constant S_ .f32 0x3F800000#32) (constant S_ .f32 0x447A0000#32)) (constant S_ .f32 0x41000000#32)))) (Host.divf E (broadcastInDim S262144x32x8 ![0, 1, 2] bcast_S262144x32x1_S262144x32x8_0_1_2 (broadcastInDim S262144x32x1 ![0, 1] bcast_S262144x32_S262144x32x1_0_1 (Host.reduceAdd E (constant S_ .f32 0x00000000#32) reducesTo_S262144x32x8_S262144x32_d2 h_S_)))))) (broadcastInDim S262144x32x8 ![] bcast_S_S262144x32x8 (constant S_ .f32 0x40C00000#32))

/-- The exponentials of eight numbers moved down by another. -/
def rexps (x : FVec Ideal S262144x32x8 .f32) (M : FVec Ideal S262144x32 .f32) : FVec Ideal S262144x32x8 .f32 :=
  Host.exp (subf x (broadcastInDim S262144x32x8 ![0, 1, 2] bcast_S262144x32x1_S262144x32x8_0_1_2 (broadcastInDim S262144x32x1 ![0, 1] bcast_S262144x32_S262144x32x1_0_1 (maximumf (broadcastInDim S262144x32 ![] bcast_S_S262144x32 (constant S_ .f32 0xFF800000#32)) M))))

/-- The nine edges, from the sizes. -/
def redges (x : FVec Ideal S262144x32x8 .f32) : FVec Ideal S262144x32x9 .f32 :=
  subf (concatenate S262144x32x9 2 [⟨S262144x32x1, (broadcastInDim S262144x32x1 ![] bcast_S_S262144x32x1 (constant (F := Ideal) S_ .f32 0x00000000#32))⟩, ⟨S262144x32x8, (Host.reduceWindowAdd ![1, 1, 8] ![1, 1, 1] ![0, 0, 7] ![0, 0, 0] x (broadcastInDim S_ ![] bcast_S_S_ (constant S_ .f32 0x00000000#32)) reduceWindows_S262144x32x8_S262144x32x8_w1s1p0_0_w1s1p0_0_w8s1p7_0 h_S_)⟩] concatenates_S262144x32x1_S262144x32x8_S262144x32x9_d2) (broadcastInDim S262144x32x9 ![] bcast_S_S262144x32x9 (constant S_ .f32 0x40400000#32))

theorem rexps_at (x : FVec Ideal S262144x32x8 .f32) (M : FVec Ideal S262144x32 .f32) (a : ℕ → ℝ) (m : ℝ)
    (hx : ∀ q : Fin 8, x (ix3 b u q) = (a q.1 : EReal)) (hm : M (ix2 b u) = (m : EReal)) (q : Fin 8) :
    rexps x M (ix3 b u q) = ((Real.exp (a q.1 - m) : ℝ) : EReal) := by
  unfold rexps
  pointwise
  rw [hx, hm, word_bot, max_eq_right bot_le, ← EReal.coe_sub, Ideal.exp_coe]

theorem rsizes_of (E : FVec Ideal S262144x32x8 .f32) (a : ℕ → ℝ) (m : ℝ)
    (he : ∀ q : Fin 8, E (ix3 b u q) = ((Real.exp (a q.1 - m) : ℝ) : EReal)) (q : Fin 8) :
    rsizes E (ix3 b u q) = ((size a q.1 : ℝ) : EReal) := by
  unfold rsizes
  pointwise
  simp only [he, word_1000, word_8, word_6]
  exact rsize a m q.1

/-- Sizes at an index. -/
theorem rsizes_at (x : FVec Ideal S262144x32x8 .f32) (a : ℕ → ℝ) (hx : ∀ q : Fin 8, x (ix3 b u q) = (a q.1 : EReal)) (q : Fin 8) :
    rsizes (rexps x (Host.reduce FloatOps.maximumf x (constant S_ .f32 0xFF800000#32) reducesTo_S262144x32x8_S262144x32_d2 h_S_))
      (ix3 b u q) = ((size a q.1 : ℝ) : EReal) := by
  obtain ⟨m, hm⟩ := max_last reducesTo_S262144x32x8_S262144x32_d2 h_S_ (by norm_num) x b u fun k => ⟨_, hx k⟩
  exact rsizes_of b u _ a m (rexps_at b u x _ a m hx hm) q

/-- Edges at an index. -/
theorem redges_at (x : FVec Ideal S262144x32x8 .f32) (a : ℕ → ℝ)
    (hx : ∀ q : Fin 8, x (ix3 b u q) = ((size a q.1 : ℝ) : EReal)) (q : Fin 9) :
    redges x (ix3 b u q) = ((edge a q.1 : ℝ) : EReal) := by
  have hr := running x (broadcastInDim S_ ![] bcast_S_S_ (constant S_ .f32 0x00000000#32)) (by
    pointwise) b u
  unfold redges
  generalize Host.reduceWindowAdd _ _ _ _ x _ _ _ = R at hr ⊢
  obtain ⟨q, hq⟩ := q
  rcases q with _ | q
  · pointwise
    rw [word_3, ← EReal.coe_zero, ← EReal.coe_sub]
    simp [edge]
  · pointwise
    rw [dif_neg (by omega), word_3]
    refine Eq.trans (congrArg (fun v : EReal => v - ((3 : ℝ) : EReal)) (hr q (by omega))) ?_
    have e : ∀ i ∈ Finset.range (q + 1), (if h : i < 8 then x (ix3 b u ⟨i, h⟩) else 0 : EReal) = ((size a i : ℝ) : EReal) := by
      intro i hi
      have := Finset.mem_range.mp hi
      rw [dif_pos (show i < 8 by omega), hx]
    rw [Finset.sum_congr rfl e, esum, ← EReal.coe_sub, edge_eq]
    congr 1
    ring

include hf

theorem rwidths (q : Fin 8) : res_main_v88 V (ix3 b u q) = ((size (rawW (rargs V).weights ((rargs V).sample b) u) q.1 : ℝ) : EReal) := by
  refine rsizes_at b u (res_main_v66 V) (rawW (rargs V).weights ((rargs V).sample b) u) (fun q => ?_) q
  pointwise [res_main_v66]
  exact rraw hf b u q.1 (by omega)

theorem rheights (q : Fin 8) : res_main_v107 V (ix3 b u q) = ((size (rawH (rargs V).weights ((rargs V).sample b) u) q.1 : ℝ) : EReal) := by
  refine rsizes_at b u (res_main_v67 V) (rawH (rargs V).weights ((rargs V).sample b) u) (fun q => ?_) q
  pointwise [res_main_v67]
  exact rraw hf b u (8 + q.1) (by omega)

theorem rslopes (q : Fin 9) : res_main_v110 V (ix3 b u q) = ((slope (rawD (rargs V).weights ((rargs V).sample b) u q.1) : ℝ) : EReal) := by
  pointwise [res_main_v110, res_main_call2_v3, res_main_v68, res_main_call2_cst]
  rw [rraw hf b u (16 + q.1) (by omega), if_neg (fun h => h rfl), word_least]
  exact rslope _

theorem rxedges (q : Fin 9) : res_main_v116 V (ix3 b u q) = ((edge (rawW (rargs V).weights ((rargs V).sample b) u) q.1 : ℝ) : EReal) :=
  redges_at b u (res_main_v88 V) _ (rwidths hf b u) q

theorem ryedges (q : Fin 9) : redges (res_main_v107 V) (ix3 b u q) = ((edge (rawH (rargs V).weights ((rargs V).sample b) u) q.1 : ℝ) : EReal) :=
  redges_at b u (res_main_v107 V) _ (rheights hf b u) q

theorem rclamp : res_main_v128 V (ix2 b u) = ((clamp (odds ((rargs V).sample b) u) : ℝ) : EReal) := by
  unfold res_main_v128
  simp only [id]
  pointwise
  rw [rodd hf, word_3, word_neg3, emax, emin, clamp, max_comm, min_comm]

theorem rbin : res_main_v136 V (ix2 b u) = BitVec.ofNat 32 (bin (edge (rawW (rargs V).weights ((rargs V).sample b) u)) (clamp (odds ((rargs V).sample b) u))) := by
  have hc := count_last reducesTo_S262144x32x9_S262144x32_d2 h_S_ natLt_1_32 (by norm_num) (cmpf .oge (broadcastInDim S262144x32x9 ![0, 1, 2] bcast_S262144x32x1_S262144x32x9_0_1_2 (broadcastInDim S262144x32x1 ![0, 1] bcast_S262144x32_S262144x32x1_0_1 (res_main_v128 V))) (res_main_v116 V)) b u
  have hm (k : Fin 9) : (cmpf .oge (broadcastInDim S262144x32x9 ![0, 1, 2] bcast_S262144x32x1_S262144x32x9_0_1_2 (broadcastInDim S262144x32x1 ![0, 1] bcast_S262144x32_S262144x32x1_0_1 (res_main_v128 V))) (res_main_v116 V)) (ix3 b u k) = 1#1
      ↔ edge (rawW (rargs V).weights ((rargs V).sample b) u) k.1 ≤ clamp (odds ((rargs V).sample b) u) := by
    pointwise
    rw [rxedges hf, rclamp hf, Predicate.ofBool_eq_one_iff, decide_eq_true_eq, EReal.coe_le_coe_iff]
  simp only [hm] at hc
  have hb := bin_le (edge (rawW (rargs V).weights ((rargs V).sample b) u)) (clamp (odds ((rargs V).sample b) u))
  have h := edges_reached _ _ _ hc
  unfold res_main_v136
  simp only [id]
  generalize Host.reduce IntOp.addi _ _ _ _ = C at h ⊢
  pointwise
  generalize C (ix2 b u) = w at h ⊢
  generalize bin _ _ = j at h hb ⊢
  have hw : w = BitVec.ofNat 32 w.toNat := by simp
  rcases h with h | ⟨h, rfl⟩
  · rw [hw, h]
    interval_cases j <;> rfl
  · rw [hw, h]
    rfl

end Cert.Flow

end
-- ==== Proof.RPiece.lean ====
/- The piece of the spline that the reference takes, its value and the logarithm of its derivative. -/
module

public import proofs.«01_k».proof.Proof.RSpline

@[expose] public section

set_option maxRecDepth 16384

noncomputable section

namespace Cert.Flow

open Idealize.ShloMosaic Idealize.ShloMosaic.StableHlo Cert.ReferenceIdeal Cert.ReferenceIdeal.Gen Cert.ReferenceIdeal.Value

/-! ## The spline of a piece, as the reference spells it -/

section Generic

variable (b : Fin 262144) (u : Fin 32) {p : Piece} {x : ℝ} {vx vv vW vH vX vY vd0 vd1 vs vθ vt vω vden : FVec Ideal S262144x32 .f32}

theorem s_of (g : 0 < p.W) (hW : vW (ix2 b u) = (p.W : EReal)) (hH : vH (ix2 b u) = (p.H : EReal)) :
    Host.divf vH vW (ix2 b u) = (p.s : EReal) := by
  pointwise
  rw [hW, hH, ediv g.ne']
  rfl

theorem θ_of (g : 0 < p.W) (hW : vW (ix2 b u) = (p.W : EReal)) (hX : vX (ix2 b u) = (p.X : EReal)) (hx : vx (ix2 b u) = (x : EReal)) :
    Host.divf (subf vx vX) vW (ix2 b u) = (p.θ x : EReal) := by
  pointwise
  rw [hW, hX, hx, ← EReal.coe_sub, ediv g.ne']
  rfl

theorem ω_of (hθ : vθ (ix2 b u) = (p.θ x : EReal)) :
    subf (broadcastInDim S262144x32 ![] bcast_S_S262144x32 (constant S_ .f32 0x3F800000#32)) vθ (ix2 b u) = ((1 - p.θ x : ℝ) : EReal) := by
  pointwise
  rw [hθ, ← EReal.coe_one, ← EReal.coe_sub]

theorem t_of (hθ : vθ (ix2 b u) = (p.θ x : EReal)) :
    mulf vθ (subf (broadcastInDim S262144x32 ![] bcast_S_S262144x32 (constant S_ .f32 0x3F800000#32)) vθ) (ix2 b u) = (p.t x : EReal) := by
  pointwise
  rw [hθ, ← EReal.coe_one, ← EReal.coe_sub, ← EReal.coe_mul]
  rfl

variable (hs : vs (ix2 b u) = (p.s : EReal)) (hd0 : vd0 (ix2 b u) = (p.d0 : EReal)) (ht : vt (ix2 b u) = (p.t x : EReal))
include hs hd0 ht

theorem den_of (hd1 : vd1 (ix2 b u) = (p.d1 : EReal)) :
    addf vs (mulf (subf (addf vd1 vd0) (mulf (broadcastInDim S262144x32 ![] bcast_S_S262144x32 (constant S_ .f32 0x40000000#32)) vs)) vt) (ix2 b u)
      = (p.den x : EReal) := by
  pointwise
  rw [hs, hd0, hd1, ht, word_2]
  simp only [← EReal.coe_mul, ← EReal.coe_add, ← EReal.coe_sub]
  rfl

variable (g : p.Good x) (hθ : vθ (ix2 b u) = (p.θ x : EReal)) (hden : vden (ix2 b u) = (p.den x : EReal))
include g hθ hden

theorem y_of (hY : vY (ix2 b u) = (p.Y : EReal)) (hH : vH (ix2 b u) = (p.H : EReal)) :
    addf vY (Host.divf (mulf vH (addf (mulf (mulf vs vθ) vθ) (mulf vd0 vt))) vden) (ix2 b u) = (p.y x : EReal) := by
  pointwise
  rw [hs, hd0, ht, hθ, hden, hY, hH]
  simp only [← EReal.coe_mul, ← EReal.coe_add]
  rw [ediv g.den_pos.ne', ← EReal.coe_add, Piece.y, mul_assoc p.s]

theorem ld_of (hd1 : vd1 (ix2 b u) = (p.d1 : EReal)) (hω : vω (ix2 b u) = ((1 - p.θ x : ℝ) : EReal)) :
    subf (addf (mulf (broadcastInDim S262144x32 ![] bcast_S_S262144x32 (constant S_ .f32 0x40000000#32)) (Host.log vs)) (Host.log (addf (addf (mulf (mulf vd1 vθ) vθ) (mulf (mulf (broadcastInDim S262144x32 ![] bcast_S_S262144x32 (constant S_ .f32 0x40000000#32)) vs) vt)) (mulf vd0 (mulf vω vω))))) (mulf (broadcastInDim S262144x32 ![] bcast_S_S262144x32 (constant S_ .f32 0x40000000#32)) (Host.log vden)) (ix2 b u)
      = (p.ld x : EReal) := by
  have en : p.d1 * p.θ x * p.θ x + 2 * p.s * p.t x + p.d0 * ((1 - p.θ x) * (1 - p.θ x)) = p.numer x := by
    unfold Piece.numer
    ring
  pointwise
  rw [hs, hd0, hd1, ht, hθ, hω, hden, word_2, elog g.s_pos, elog g.den_pos]
  simp only [← EReal.coe_mul, ← EReal.coe_add]
  rw [en, elog g.numer_pos]
  simp only [← EReal.coe_mul, ← EReal.coe_add, ← EReal.coe_sub]
  rfl

omit hs hd0 ht g hθ hden in
theorem inside_of {v : ℝ} (hv : vv (ix2 b u) = (v : EReal)) (X Y : FVec Ideal S262144x32 .f32) :
    select (andi (cmpf .ogt vv (broadcastInDim S262144x32 ![] bcast_S_S262144x32 (constant S_ .f32 0xC0400000#32))) (cmpf .olt vv (broadcastInDim S262144x32 ![] bcast_S_S262144x32 (constant S_ .f32 0x40400000#32)))) X Y (ix2 b u)
      = (if -3 < v ∧ v < 3 then X (ix2 b u) else Y (ix2 b u) : EReal) := by
  rw [← kinside]
  pointwise
  rw [hv, word_3, word_neg3]

end Generic

variable {V : Valuation τ sig (Elt Ideal)} (hf : (rargs V).Finite) (b : Fin 262144) (u : Fin 32)

include hf

/-! ## The piece that is taken -/

/-- The piece of dimension `u` of a sample. -/
abbrev rpiece (V : Valuation τ sig (Elt Ideal)) (b : Fin 262144) (u : Fin 32) : Piece :=
  pieceOf (rargs V).weights ((rargs V).sample b) u

theorem rgood : (rpiece V b u).Good (clamp (odds ((rargs V).sample b) u)) := pieceOf_good _ _ _

/-- The bin of dimension `u` of a sample. -/
abbrev rbin_ (V : Valuation τ sig (Elt Ideal)) (b : Fin 262144) (u : Fin 32) : ℕ :=
  bin (edge (rawW (rargs V).weights ((rargs V).sample b) u)) (clamp (odds ((rargs V).sample b) u))

omit hf in
theorem rbin_le : rbin_ V b u ≤ 7 := bin_le _ _

theorem rword (i : IVec S262144x32x1 32) (h : i = broadcastInDim S262144x32x1 ![0, 1] bcast_S262144x32_S262144x32x1_0_1 (res_main_v136 V)) :
    i (ix3 b u 0) = BitVec.ofNat 32 (bin (edge (rawW (rargs V).weights ((rargs V).sample b) u)) (clamp (odds ((rargs V).sample b) u))) := by
  rw [h]
  pointwise
  exact rbin hf b u

theorem rnext : res_main_v154 V (ix3 b u 0)
    = BitVec.ofNat 32 (bin (edge (rawW (rargs V).weights ((rargs V).sample b) u)) (clamp (odds ((rargs V).sample b) u)) + 1) := by
  have hb := bin_le (edge (rawW (rargs V).weights ((rargs V).sample b) u)) (clamp (odds ((rargs V).sample b) u))
  pointwise [res_main_v154]
  rw [rbin hf]
  generalize bin _ _ = j at hb ⊢
  interval_cases j <;> rfl

theorem rW : res_main_v139 V (ix2 b u) = (((rpiece V b u).W : ℝ) : EReal) := by
  have hw : res_main_call7_v5 V (ix4 b u 0 0) = BitVec.ofNat 32 (rbin_ V b u) :=
    word_stays _ b u (res_main_v137 V) 8#32 ((rbin_le b u).trans (by norm_num)) (rword hf b u _ rfl)
  have e : res_main_v139 V (ix2 b u) = (res_main_v88 V) (ix3 b u ⟨rbin_ V b u, Nat.lt_succ_of_le (rbin_le b u)⟩) := by
    unfold res_main_v139
    exact take8 _ b u _ (res_main_v88 V) (res_main_call7_v5 V) hw
  rw [e]
  exact rwidths hf b u _

theorem rH : res_main_v145 V (ix2 b u) = (((rpiece V b u).H : ℝ) : EReal) := by
  have hw : res_main_call9_v5 V (ix4 b u 0 0) = BitVec.ofNat 32 (rbin_ V b u) :=
    word_stays _ b u (res_main_v143 V) 8#32 ((rbin_le b u).trans (by norm_num)) (rword hf b u _ rfl)
  have e : res_main_v145 V (ix2 b u) = (res_main_v107 V) (ix3 b u ⟨rbin_ V b u, Nat.lt_succ_of_le (rbin_le b u)⟩) := by
    unfold res_main_v145
    exact take8 _ b u _ (res_main_v107 V) (res_main_call9_v5 V) hw
  rw [e]
  exact rheights hf b u _

theorem rd0 : res_main_v151 V (ix2 b u) = (((rpiece V b u).d0 : ℝ) : EReal) := by
  have hw : res_main_call11_v5 V (ix4 b u 0 0) = BitVec.ofNat 32 (rbin_ V b u) :=
    word_stays _ b u (res_main_v149 V) 9#32 ((rbin_le b u).trans (by norm_num)) (rword hf b u _ rfl)
  have e : res_main_v151 V (ix2 b u) = (res_main_v110 V) (ix3 b u ⟨rbin_ V b u, Nat.lt_of_le_of_lt (rbin_le b u) (by norm_num)⟩) := by
    unfold res_main_v151
    exact take9 _ b u _ (res_main_v110 V) (res_main_call11_v5 V) hw
  rw [e]
  exact rslopes hf b u _

theorem rd1 : res_main_v156 V (ix2 b u) = (((rpiece V b u).d1 : ℝ) : EReal) := by
  have hw : res_main_call12_v5 V (ix4 b u 0 0) = BitVec.ofNat 32 (rbin_ V b u + 1) :=
    word_stays _ b u (res_main_v154 V) 9#32 (Nat.succ_le_succ (rbin_le b u)) (rnext hf b u)
  have e : res_main_v156 V (ix2 b u) = (res_main_v110 V) (ix3 b u ⟨rbin_ V b u + 1, Nat.succ_lt_succ (Nat.lt_succ_of_le (rbin_le b u))⟩) := by
    unfold res_main_v156
    exact take9 _ b u _ (res_main_v110 V) (res_main_call12_v5 V) hw
  rw [e]
  exact rslopes hf b u _

/-- The take of the lower edge in the first direction. -/
def rlow (V : Valuation τ sig (Elt Ideal)) : FVec Ideal S262144x32 .f32 :=
  (shapeCast S262144x32 (select (Host.reduce IntOp.andi (andi (cmpi .sge (res_main_call8_v5 V) (broadcastInDim S262144x32x1x1 ![] bcast_S_S262144x32x1x1 (constantI S_ 32 0#32))) (cmpi .sle (res_main_call8_v5 V) (broadcastInDim S262144x32x1x1 ![0, 1, 2, 3] bcast_S1x1x1x1_S262144x32x1x1_0_1_2_3 (broadcastInDim S1x1x1x1 ![3] bcast_S1_S1x1x1x1_3 (constantI S1 32 8#32))))) (constantI S_ 1 1#1) reducesTo_S262144x32x1x1_S262144x32x1_d3 h_S_) (Host.gather gather_S262144x32x9_S262144x32x1x1_S262144x32x1_n_2_01_01_2_3_111 (res_main_v116 V) (res_main_call8_v5 V)) (broadcastInDim S262144x32x1 ![] bcast_S_S262144x32x1 (constant (F := Ideal) S_ .f32 0x7FC00000#32))) shapeCasts_S262144x32x1_S262144x32)

theorem rX : rlow V (ix2 b u) = (((rpiece V b u).X : ℝ) : EReal) := by
  have hw : res_main_call8_v5 V (ix4 b u 0 0) = BitVec.ofNat 32 (rbin_ V b u) :=
    word_stays _ b u (res_main_v140 V) 9#32 ((rbin_le b u).trans (by norm_num)) (rword hf b u _ rfl)
  have e : rlow V (ix2 b u) = (res_main_v116 V) (ix3 b u ⟨rbin_ V b u, Nat.lt_of_le_of_lt (rbin_le b u) (by norm_num)⟩) := by
    unfold rlow
    exact take9 _ b u _ (res_main_v116 V) (res_main_call8_v5 V) hw
  rw [e]
  exact rxedges hf b u _

/-- The take of the lower edge in the second direction. -/
def rbase (V : Valuation τ sig (Elt Ideal)) : FVec Ideal S262144x32 .f32 :=
  (shapeCast S262144x32 (select (Host.reduce IntOp.andi (andi (cmpi .sge (res_main_call10_v5 V) (broadcastInDim S262144x32x1x1 ![] bcast_S_S262144x32x1x1 (constantI S_ 32 0#32))) (cmpi .sle (res_main_call10_v5 V) (broadcastInDim S262144x32x1x1 ![0, 1, 2, 3] bcast_S1x1x1x1_S262144x32x1x1_0_1_2_3 (broadcastInDim S1x1x1x1 ![3] bcast_S1_S1x1x1x1_3 (constantI S1 32 8#32))))) (constantI S_ 1 1#1) reducesTo_S262144x32x1x1_S262144x32x1_d3 h_S_) (Host.gather gather_S262144x32x9_S262144x32x1x1_S262144x32x1_n_2_01_01_2_3_111 (redges (res_main_v107 V)) (res_main_call10_v5 V)) (broadcastInDim S262144x32x1 ![] bcast_S_S262144x32x1 (constant (F := Ideal) S_ .f32 0x7FC00000#32))) shapeCasts_S262144x32x1_S262144x32)

theorem rY : rbase V (ix2 b u) = (((rpiece V b u).Y : ℝ) : EReal) := by
  have hw : res_main_call10_v5 V (ix4 b u 0 0) = BitVec.ofNat 32 (rbin_ V b u) :=
    word_stays _ b u (res_main_v146 V) 9#32 ((rbin_le b u).trans (by norm_num)) (rword hf b u _ rfl)
  have e : rbase V (ix2 b u) = (redges (res_main_v107 V)) (ix3 b u ⟨rbin_ V b u, Nat.lt_of_le_of_lt (rbin_le b u) (by norm_num)⟩) := by
    unfold rbase
    exact take9 _ b u _ (redges (res_main_v107 V)) (res_main_call10_v5 V) hw
  rw [e]
  exact ryedges hf b u _

theorem rs : res_main_v157 V (ix2 b u) = (((rpiece V b u).s : ℝ) : EReal) := by
  unfold res_main_v157
  exact s_of b u (rgood hf b u).W (rW hf b u) (rH hf b u)

theorem rθ : res_main_v159 V (ix2 b u) = (((rpiece V b u).θ (clamp (odds ((rargs V).sample b) u)) : ℝ) : EReal) := by
  unfold res_main_v159
  exact θ_of b u (rgood hf b u).W (rW hf b u) (rX hf b u) (rclamp hf b u)

theorem rt : res_main_v162 V (ix2 b u) = (((rpiece V b u).t (clamp (odds ((rargs V).sample b) u)) : ℝ) : EReal) := by
  unfold res_main_v162
  exact t_of b u (rθ hf b u)

theorem rω : res_main_v186 V (ix2 b u) = ((1 - (rpiece V b u).θ (clamp (odds ((rargs V).sample b) u)) : ℝ) : EReal) := by
  unfold res_main_v186
  exact ω_of b u (rθ hf b u)

theorem rden : res_main_v168 V (ix2 b u) = (((rpiece V b u).den (clamp (odds ((rargs V).sample b) u)) : ℝ) : EReal) := by
  unfold res_main_v168
  exact den_of b u (rs hf b u) (rd0 hf b u) (rt hf b u) (rd1 hf b u)

/-- The value that the reference gives an odd dimension. -/
def rvalue (V : Valuation τ sig (Elt Ideal)) : FVec Ideal S262144x32 .f32 :=
  select (res_main_v127 V) (addf (rbase V) (Host.divf (mulf (res_main_v145 V) (addf (mulf (mulf (res_main_v157 V) (res_main_v159 V)) (res_main_v159 V)) (mulf (res_main_v151 V) (res_main_v162 V)))) (res_main_v168 V))) (res_main_v1 V)

theorem rvalue_at : rvalue V (ix2 b u) = ((outY (rargs V).weights ((rargs V).sample b) u : ℝ) : EReal) := by
  unfold rvalue res_main_v127
  refine (inside_of b u (rodd hf b u) _ _).trans ?_
  rw [outY, splineY]
  split_ifs
  · exact y_of b u (rs hf b u) (rd0 hf b u) (rt hf b u) (rgood hf b u) (rθ hf b u) (rden hf b u) (rY hf b u) (rH hf b u)
  · exact rodd hf b u

/-- The logarithm that the reference gives an odd dimension. -/
def rlog (V : Valuation τ sig (Elt Ideal)) : FVec Ideal S262144x32 .f32 :=
  select (res_main_v127 V) (subf (addf (mulf (broadcastInDim S262144x32 ![] bcast_S_S262144x32 (constant S_ .f32 0x40000000#32)) (Host.log (res_main_v157 V))) (Host.log (addf (addf (mulf (mulf (res_main_v156 V) (res_main_v159 V)) (res_main_v159 V)) (mulf (mulf (broadcastInDim S262144x32 ![] bcast_S_S262144x32 (constant S_ .f32 0x40000000#32)) (res_main_v157 V)) (res_main_v162 V))) (mulf (res_main_v151 V) (mulf (res_main_v186 V) (res_main_v186 V)))))) (mulf (broadcastInDim S262144x32 ![] bcast_S_S262144x32 (constant S_ .f32 0x40000000#32)) (Host.log (res_main_v168 V)))) (broadcastInDim S262144x32 ![] bcast_S_S262144x32 (constant S_ .f32 0x00000000#32))

theorem rlog_at : rlog V (ix2 b u) = ((outLd (rargs V).weights ((rargs V).sample b) u : ℝ) : EReal) := by
  unfold rlog res_main_v127
  refine (inside_of b u (rodd hf b u) _ _).trans ?_
  rw [outLd, splineLd]
  split_ifs
  · exact ld_of b u (rs hf b u) (rd0 hf b u) (rt hf b u) (rgood hf b u) (rθ hf b u) (rden hf b u) (rd1 hf b u) (rω hf b u)
  · pointwise
    rfl

end Cert.Flow

end
-- ==== Proof.RRun.lean ====
/- The reference's run: its two results, read of the arguments. -/
module

public import proofs.«01_k».proof.Proof.RPiece

@[expose] public section

set_option maxRecDepth 16384

noncomputable section

namespace Cert.Flow

open Idealize.ShloMosaic Idealize.ShloMosaic.StableHlo Idealize.SL.Sem Cert.ReferenceIdeal Cert.ReferenceIdeal.Gen Cert.ReferenceIdeal.Value

/-- Two arrays of half a sample each, stacked and laid out as one, alternate. -/
theorem woven (P Q : FVec Ideal S262144x32 .f32) (b : Fin 262144) (c : Fin 64) :
    shapeCast S262144x64 (concatenate S262144x32x2 2 [⟨S262144x32x1, broadcastInDim S262144x32x1 ![0, 1] bcast_S262144x32_S262144x32x1_0_1 P⟩, ⟨S262144x32x1, broadcastInDim S262144x32x1 ![0, 1] bcast_S262144x32_S262144x32x1_0_1 Q⟩] concatenates_S262144x32x1_S262144x32x1_S262144x32x2_d2) shapeCasts_S262144x32x2_S262144x64 (ix2 b c)
      = (if c.val % 2 = 0 then P (ix2 b ⟨c.val / 2, by omega⟩) else Q (ix2 b ⟨c.val / 2, by omega⟩) : EReal) := by
  pointwise
  by_cases e : c.val % 2 = 0
  · rw [if_pos e]
    exact dif_pos (by omega)
  · rw [if_neg e]
    refine (dif_neg (by omega)).trans ?_
    rfl

/-- The sum of an array of reals over a sample's odd dimensions. -/
theorem summed (P : FVec Ideal S262144x32 .f32) (f : Fin 32 → ℝ) (b : Fin 262144) (h : ∀ u, P (ix2 b u) = ((f u : ℝ) : EReal)) :
    Host.reduceAdd P (constant S_ .f32 0x00000000#32) reducesTo_S262144x32_S262144_d1 h_S_ (ix1 b) = ((∑ u, f u : ℝ) : EReal) := by
  pointwise
  rw [Finset.sum_congr rfl (fun u _ => h u), esum]

/-- Row by row, the reference's samples are the moved ones. -/
theorem woven_at {V : Valuation τ sig (Elt Ideal)} (hf : (rargs V).Finite) (b : Fin 262144) (c : Fin 64) :
    (if c.val % 2 = 0 then res_main_v0 V (ix2 b ⟨c.val / 2, by omega⟩) else rvalue V (ix2 b ⟨c.val / 2, by omega⟩) : EReal)
      = ((outRow (rargs V).weights ((rargs V).sample b) c : ℝ) : EReal) := by
  unfold outRow
  split_ifs with e
  · refine (rx hf _ _).trans (congrArg (fun k : Fin 64 => (((rargs V).sample b k : ℝ) : EReal)) (Fin.ext ?_))
    show 2 * (c.val / 2) = c.val
    omega
  · exact rvalue_at hf _ _

/-- The reference's samples. -/
theorem moved_at {V : Valuation τ sig (Elt Ideal)} (hf : (rargs V).Finite) (A : FVec Ideal S262144x64 .f32)
    (h : A = shapeCast S262144x64 (concatenate S262144x32x2 2 [⟨S262144x32x1, broadcastInDim S262144x32x1 ![0, 1] bcast_S262144x32_S262144x32x1_0_1 (res_main_v0 V)⟩, ⟨S262144x32x1, broadcastInDim S262144x32x1 ![0, 1] bcast_S262144x32_S262144x32x1_0_1 (rvalue V)⟩] concatenates_S262144x32x1_S262144x32x1_S262144x32x2_d2) shapeCasts_S262144x32x2_S262144x64) :
    A = (rargs V).moved := by
  subst h
  funext i
  idx_vars i
  exact (woven _ _ _ _).trans (woven_at hf _ _)

/-- The reference's log-determinant. -/
theorem logdet_at {V : Valuation τ sig (Elt Ideal)} (hf : (rargs V).Finite) (A : FVec Ideal S262144 .f32)
    (h : A = Host.reduceAdd (rlog V) (constant S_ .f32 0x00000000#32) reducesTo_S262144x32_S262144_d1 h_S_) :
    A = (rargs V).logdet := by
  subst h
  funext i
  idx_vars i
  exact summed _ _ _ (fun u => rlog_at hf _ u)

variable (m : (ℓ : Loc nD τ sig) → Buf (Elt Ideal) ℓ)

/-- Where its arguments are finite, the reference ends with the moved samples and their log-determinants, its
    arguments as they were. -/
theorem reference_run (hf : ∀ c, (rargs (launchContents m c)).Finite) (ρ : Dev nD → PrngReg) :
    θ_run defs (onTc (τ := τ) (main (F := Ideal))) ⟨m, fun _ => 0, ρ⟩ (fun r => ∀ c : Dev nD,
      r.2.mem ((c.tc : Thread nD τ).loc main_v202) = (rargs (launchContents m c)).moved
      ∧ r.2.mem ((c.tc : Thread nD τ).loc main_v198) = (rargs (launchContents m c)).logdet
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run _ _ _).mono (fun r h c => ⟨?_, ?_, (h c).2.2⟩) (Cert.ReferenceIdeal.Value.run (F := Ideal) m ρ)
  · exact moved_at (hf c) _ (h c).1
  · exact logdet_at (hf c) _ (h c).2.1

end Cert.Flow

end
-- ==== Proof.Agree.lean ====
/- The kernel's two results are the reference's. -/
module

public import proofs.«01_k».proof.Proof.Pre
public import proofs.«01_k».proof.Proof.RRun

@[expose] public section

noncomputable section

namespace Cert.Flow

open Idealize.ShloMosaic Idealize.ShloMosaic.StableHlo Idealize.SL.Sem

/-- From equal arguments, the reference's are the kernel's. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    rargs (launchContents m' c) = kargs m c := by
  obtain ⟨h0, h1, h2, h3, h4, h5, h6, h7, h8, h9, h10⟩ := h
  unfold kargs
  rw [← h0, ← h1, ← h2, ← h3, ← h4, ← h5, ← h6, ← h7, ← h8, ← h9, ← h10]
  rfl

/-- Where the arguments are finite, the kernel and the reference end with the same two arrays. -/
theorem agree : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  have hk := kargs_finite m hpre
  have e (c : Dev Cert.KernelIdeal.nD) := same_args m m' c (hagree c)
  refine ⟨fun c => (kargs m c).moved, fun c => (kargs m c).logdet, kernel_run m hk ρ, ?_⟩
  have hr : ∀ c, (rargs (launchContents m' c)).Finite := fun c => (e c).symm ▸ hk c
  refine (θ_run _ _ _).mono (fun r h c => ⟨(h c).1.trans ?_, (h c).2.1.trans ?_, (h c).2.2⟩) (reference_run m' hr ρ')
  · exact congrArg Args.moved (e c)
  · exact congrArg Args.logdet (e c)

end Cert.Flow

end
-- ==== Proof.lean ====
module

public import proofs.«01_k».proof.Proof.Spine
public import proofs.«01_k».proof.Proof.Agree

@[expose] public section

/-- Every claim. -/
theorem Cert.Proof.claim : Cert.Claim :=
  ⟨Cert.Kernel.Gen.facts, Cert.KernelIdeal.Gen.facts, Cert.ReferenceIdeal.Gen.facts, Cert.Flow.pre_facts,
    Cert.Flow.kernel_frame, Cert.Flow.ideal_frame, Cert.Flow.ideal_frame_finite Cert.Flow.pre_facts,
    Cert.Flow.reference_frame, Cert.Flow.reference_frame_finite Cert.Flow.pre_facts, Cert.Flow.names_keep, Cert.Flow.agree⟩
